-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_minus_infinity [hPre_scores_above_minus_infinity : Cert.Pre_scores_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_minus_infinity [hPre_scores_above_minus_infinity : Cert.Pre_scores_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_above_minus_infinity [hKernelIdeal : Cert.KernelIdeal.Facts] [hPre_scores_above_minus_infinity : Cert.Pre_scores_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_above_minus_infinity [hReferenceIdeal : Cert.ReferenceIdeal.Facts] [hPre_scores_above_minus_infinity : Cert.Pre_scores_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_above_minus_infinity [hKernelIdeal : Cert.KernelIdeal.Facts] [hReferenceIdeal : Cert.ReferenceIdeal.Facts] [hPre_scores_above_minus_infinity : Cert.Pre_scores_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_above_minus_infinity : Cert.Pre_scores_above_minus_infinity.Facts),
    quiescent_Kernel (hKernel := hKernel)
    ∧ quiescent_KernelIdeal (hKernelIdeal := hKernelIdeal)
    ∧ quiescent_KernelIdeal_pre_scores_above_minus_infinity (hKernelIdeal := hKernelIdeal) (hPre_scores_above_minus_infinity := hPre_scores_above_minus_infinity)
    ∧ quiescent_ReferenceIdeal (hReferenceIdeal := hReferenceIdeal)
    ∧ quiescent_ReferenceIdeal_pre_scores_above_minus_infinity (hReferenceIdeal := hReferenceIdeal) (hPre_scores_above_minus_infinity := hPre_scores_above_minus_infinity)
    ∧ preserves_Kernel_KernelIdeal
    ∧ algebraic_KernelIdeal_ReferenceIdeal_pre_scores_above_minus_infinity (hKernelIdeal := hKernelIdeal) (hReferenceIdeal := hReferenceIdeal) (hPre_scores_above_minus_infinity := hPre_scores_above_minus_infinity)
-- ==== Pre_scores_above_minus_infinity.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : FVec F S20000x4 .f32) (main_arg1 : FVec F S20000 .f32) : IVec S_ 1 :=
  let main_cst : FVec F S_ .f32 := constant S_ .f32 0xFF800000#32
  let main_v0 : FVec F S20000 .f32 := broadcastInDim S20000 ![] bcast_S_S20000 main_cst
  let main_v1 : IVec S20000 1 := cmpf .ogt main_arg1 main_v0
  let main_c : IVec S_ 1 := constantI S_ 1 1#1
  let main_v2 : IVec S_ 1 := (fun x v => Host.reduce IntOp.andi x v reducesTo_S20000_S_d0 h_S_) main_v1 main_c
  main_v2
-- ==== Kernel.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S48 : Shape := ⟨1, ![48]⟩
abbrev S2048 : Shape := ⟨1, ![2048]⟩
abbrev S48x4 : Shape := ⟨2, ![48, 4]⟩
abbrev S2048x4 : Shape := ⟨2, ![2048, 4]⟩
abbrev S1x2048 : Shape := ⟨2, ![1, 2048]⟩
abbrev S2048x1 : Shape := ⟨2, ![2048, 1]⟩
abbrev S4x2048 : Shape := ⟨2, ![4, 2048]⟩
abbrev S500x5 : Shape := ⟨2, ![500, 5]⟩
abbrev S128x128 : Shape := ⟨2, ![128, 128]⟩
abbrev S1x1x2048 : Shape := ⟨3, ![1, 1, 2048]⟩
abbrev S1x1x1 : Shape := ⟨3, ![1, 1, 1]⟩
abbrev S128x1 : Shape := ⟨2, ![128, 1]⟩
abbrev S1x128 : Shape := ⟨2, ![1, 128]⟩
abbrev S128 : Shape := ⟨1, ![128]⟩
abbrev S1x1x128 : Shape := ⟨3, ![1, 1, 128]⟩
abbrev S1x128x1 : Shape := ⟨3, ![1, 128, 1]⟩
abbrev S128x2048 : Shape := ⟨2, ![128, 2048]⟩
abbrev S2048x128 : Shape := ⟨2, ![2048, 128]⟩
abbrev S2048x2048 : Shape := ⟨2, ![2048, 2048]⟩
abbrev S512x1 : Shape := ⟨2, ![512, 1]⟩
abbrev S512x2048 : Shape := ⟨2, ![512, 2048]⟩
abbrev S2048x5 : Shape := ⟨2, ![2048, 5]⟩
abbrev S512x5 : Shape := ⟨2, ![512, 5]⟩
abbrev S1x5 : Shape := ⟨2, ![1, 5]⟩

abbrev nBuf : Space → Nat
  | .hbm => 37
  | .vmem => 12
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S2000, .f32⟩
  | .hbm, ⟨3, _⟩ => ⟨S2000, .i32⟩
  | .hbm, ⟨4, _⟩ => ⟨S_, .i32⟩
  | .hbm, ⟨5, _⟩ => ⟨S2000, .i32⟩
  | .hbm, ⟨6, _⟩ => ⟨S2000, .i1⟩
  | .hbm, ⟨7, _⟩ => ⟨S_, .i32⟩
  | .hbm, ⟨8, _⟩ => ⟨S2000, .i32⟩
  | .hbm, ⟨9, _⟩ => ⟨S2000, .i32⟩
  | .hbm, ⟨10, _⟩ => ⟨S2000, .i32⟩
  | .hbm, ⟨11, _⟩ => ⟨S2000x1, .i32⟩
  | .hbm, ⟨12, _⟩ => ⟨S1, .i32⟩
  | .hbm, ⟨13, _⟩ => ⟨S_, .i32⟩
  | .hbm, ⟨14, _⟩ => ⟨S2000x1, .i32⟩
  | .hbm, ⟨15, _⟩ => ⟨S2000x1, .i1⟩
  | .hbm, ⟨16, _⟩ => ⟨S1x1, .i32⟩
  | .hbm, ⟨17, _⟩ => ⟨S2000x1, .i32⟩
  | .hbm, ⟨18, _⟩ => ⟨S2000x1, .i1⟩
  | .hbm, ⟨19, _⟩ => ⟨S2000x1, .i1⟩
  | .hbm, ⟨20, _⟩ => ⟨S_, .i1⟩
  | .hbm, ⟨21, _⟩ => ⟨S2000, .i1⟩
  | .hbm, ⟨22, _⟩ => ⟨S2000x4, .f32⟩
  | .hbm, ⟨23, _⟩ => ⟨S2000x4, .i1⟩
  | .hbm, ⟨24, _⟩ => ⟨S_, .f32⟩
  | .hbm, ⟨25, _⟩ => ⟨S2000x4, .f32⟩
  | .hbm, ⟨26, _⟩ => ⟨S2000x4, .f32⟩
  | .hbm, ⟨27, _⟩ => ⟨S_, .f32⟩
  | .hbm, ⟨28, _⟩ => ⟨S48, .f32⟩
  | .hbm, ⟨29, _⟩ => ⟨S2048, .f32⟩
  | .hbm, ⟨30, _⟩ => ⟨S_, .f32⟩
  | .hbm, ⟨31, _⟩ => ⟨S48x4, .f32⟩
  | .hbm, ⟨32, _⟩ => ⟨S2048x4, .f32⟩
  | .hbm, ⟨33, _⟩ => ⟨S1x2048, .f32⟩
  | .hbm, ⟨34, _⟩ => ⟨S2048x1, .f32⟩
  | .hbm, ⟨35, _⟩ => ⟨S4x2048, .f32⟩
  | .hbm, ⟨36, _⟩ => ⟨S500x5, .f32⟩
  | .local _ .vmem, ⟨0, _⟩ => ⟨S1x2048, .f32⟩
  | .local _ .vmem, ⟨1, _⟩ => ⟨S2048x1, .f32⟩
  | .local _ .vmem, ⟨2, _⟩ => ⟨S2048x4, .f32⟩
  | .local _ .vmem, ⟨3, _⟩ => ⟨S4x2048, .f32⟩
  | .local _ .vmem, ⟨4, _⟩ => ⟨S500x5, .f32⟩
  | .local _ .vmem, ⟨5, _⟩ => ⟨S1x2048, .f32⟩
  | .local _ .vmem, ⟨6, _⟩ => ⟨S1x2048, .f32⟩
  | .local _ .vmem, ⟨7, _⟩ => ⟨S2048x1, .f32⟩
  | .local _ .vmem, ⟨8, _⟩ => ⟨S2048x1, .f32⟩
  | .local _ .vmem, ⟨9, _⟩ => ⟨S1x2048, .f32⟩
  | .local _ .vmem, ⟨10, _⟩ => ⟨S2048x1, .f32⟩
  | .local _ .vmem, ⟨11, _⟩ => ⟨S1x2048, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v70 : BitVec 32 := Scalar.addi c0_i32 c16_i32
  let c1_i32 : BitVec 32 := 1#32
  ⟨c0_i32, v70, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v119 : BitVec 32 := Scalar.muli arg12 c128_i32
  v119
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v119 : BitVec 32 := Scalar.muli arg12 c128_i32
  let v120 : BitVec 32 := v119
  let v121 : Index := Scalar.indexCast v120
  let c0_55 : Index := 0#32
  ![v121.toNat, 0]
def k0_off2 (k0_t1 : Fin k0_t1_loop.trips) : Fin 2 → Nat :=
  let c0_57 : Index := 0#32
  let c0_i32 : BitVec 32 := 0#32
  let c1_i32 : BitVec 32 := 1#32
  let arg12 : BitVec 32 := Scf.iv c0_i32 c1_i32 k0_t1
  let c128_i32 : BitVec 32 := 128#32
  let v119 : BitVec 32 := Scalar.muli arg12 c128_i32
  let v120 : BitVec 32 := v119
  let v125 : Index := Scalar.indexCast v120
  ![0, v125.toNat]
def k0_cond1 (v116 : BitVec 1) : BitVec 1 :=
  let v117 : BitVec 32 := Scalar.extui v116
  let c0_i32_54 : BitVec 32 := 0#32
  let v118 : BitVec 1 := Scalar.cmpi .ne v117 c0_i32_54
  v118

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S500x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S2000x2 : Shape := ⟨2, ![2000, 2]⟩
abbrev S500 : Shape := ⟨1, ![500]⟩
abbrev S500x4 : Shape := ⟨2, ![500, 4]⟩
abbrev S1x2 : Shape := ⟨2, ![1, 2]⟩
abbrev S2 : Shape := ⟨1, ![2]⟩
abbrev S1x4 : Shape := ⟨2, ![1, 4]⟩
abbrev S4 : Shape := ⟨1, ![4]⟩
abbrev S500x1 : Shape := ⟨2, ![500, 1]⟩
abbrev S500x5 : Shape := ⟨2, ![500, 5]⟩

abbrev nBuf : Space → Nat
  | .hbm => 125
  | .vmem => 0
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S2000, .f32⟩
  | .hbm, ⟨3, _⟩ => ⟨S2000, .i32⟩
  | .hbm, ⟨4, _⟩ => ⟨S_, .i32⟩
  | .hbm, ⟨5, _⟩ => ⟨S2000, .i32⟩
  | .hbm, ⟨6, _⟩ => ⟨S2000, .i1⟩
  | .hbm, ⟨7, _⟩ => ⟨S_, .i32⟩
  | .hbm, ⟨8, _⟩ => ⟨S2000, .i32⟩
  | .hbm, ⟨9, _⟩ => ⟨S2000, .i32⟩
  | .hbm, ⟨10, _⟩ => ⟨S2000, .i32⟩
  | .hbm, ⟨11, _⟩ => ⟨S2000x1, .i32⟩
  | .hbm, ⟨12, _⟩ => ⟨S1, .i32⟩
  | .hbm, ⟨13, _⟩ => ⟨S_, .i32⟩
  | .hbm, ⟨14, _⟩ => ⟨S2000x1, .i32⟩
  | .hbm, ⟨15, _⟩ => ⟨S2000x1, .i1⟩
  | .hbm, ⟨16, _⟩ => ⟨S1x1, .i32⟩
  | .hbm, ⟨17, _⟩ => ⟨S2000x1, .i32⟩
  | .hbm, ⟨18, _⟩ => ⟨S2000x1, .i1⟩
  | .hbm, ⟨19, _⟩ => ⟨S2000x1, .i1⟩
  | .hbm, ⟨20, _⟩ => ⟨S_, .i1⟩
  | .hbm, ⟨21, _⟩ => ⟨S2000, .i1⟩
  | .hbm, ⟨22, _⟩ => ⟨S2000x4, .f32⟩
  | .hbm, ⟨23, _⟩ => ⟨S2000x4, .i1⟩
  | .hbm, ⟨24, _⟩ => ⟨S_, .f32⟩
  | .hbm, ⟨25, _⟩ => ⟨S2000x4, .f32⟩
  | .hbm, ⟨26, _⟩ => ⟨S2000x4, .f32⟩
  | .hbm, ⟨27, _⟩ => ⟨S2000x2, .f32⟩
  | .hbm, ⟨28, _⟩ => ⟨S2000x2, .f32⟩
  | .hbm, ⟨29, _⟩ => ⟨S2000x2, .f32⟩
  | .hbm, ⟨30, _⟩ => ⟨S_, .f32⟩
  | .hbm, ⟨31, _⟩ => ⟨S2000x2, .f32⟩
  | .hbm, ⟨32, _⟩ => ⟨S2000x2, .f32⟩
  | .hbm, ⟨33, _⟩ => ⟨S_, .f32⟩
  | .hbm, ⟨34, _⟩ => ⟨S2000x2, .f32⟩
  | .hbm, ⟨35, _⟩ => ⟨S2000x2, .f32⟩
  | .hbm, ⟨36, _⟩ => ⟨S_, .i1⟩
  | .hbm, ⟨37, _⟩ => ⟨S2000, .i1⟩
  | .hbm, ⟨38, _⟩ => ⟨S_, .f32⟩
  | .hbm, ⟨39, _⟩ => ⟨S500, .f32⟩
  | .hbm, ⟨40, _⟩ => ⟨S_, .f32⟩
  | .hbm, ⟨41, _⟩ => ⟨S500x4, .f32⟩
  | .hbm, ⟨42, _⟩ => ⟨S_, .i32⟩
  | .hbm, ⟨43, _⟩ => ⟨S2000, .f32⟩
  | .hbm, ⟨44, _⟩ => ⟨S2000x2, .f32⟩
  | .hbm, ⟨45, _⟩ => ⟨S2000x4, .f32⟩
  | .hbm, ⟨46, _⟩ => ⟨S_, .i32⟩
  | .hbm, ⟨47, _⟩ => ⟨S2000, .i1⟩
  | .hbm, ⟨48, _⟩ => ⟨S500, .f32⟩
  | .hbm, ⟨49, _⟩ => ⟨S500x4, .f32⟩
  | .hbm, ⟨50, _⟩ => ⟨S_, .i32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S2000, .f32⟩
  | .hbm, ⟨55, _⟩ => ⟨S2000, .f32⟩
  | .hbm, ⟨56, _⟩ => ⟨S2000, .i32⟩
  | .hbm, ⟨57, _⟩ => ⟨S_, .f32⟩
  | .hbm, ⟨58, _⟩ => ⟨S_, .i32⟩
  | .hbm, ⟨59, _⟩ => ⟨S_, .f32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x2, .f32⟩
  | .hbm, ⟨75, _⟩ => ⟨S2, .f32⟩
  | .hbm, ⟨76, _⟩ => ⟨S1x2, .f32⟩
  | .hbm, ⟨77, _⟩ => ⟨S2000x2, .f32⟩
  | .hbm, ⟨78, _⟩ => ⟨S2000x2, .f32⟩
  | .hbm, ⟨79, _⟩ => ⟨S2000x2, .f32⟩
  | .hbm, ⟨80, _⟩ => ⟨S_, .f32⟩
  | .hbm, ⟨81, _⟩ => ⟨S2000, .f32⟩
  | .hbm, ⟨82, _⟩ => ⟨S_, .f32⟩
  | .hbm, ⟨83, _⟩ => ⟨S2000, .f32⟩
  | .hbm, ⟨84, _⟩ => ⟨S2000, .i1⟩
  | .hbm, ⟨85, _⟩ => ⟨S2000, .i1⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1, .i32⟩
  | .hbm, ⟨92, _⟩ => ⟨S_, .i1⟩
  | .hbm, ⟨93, _⟩ => ⟨S2000, .i1⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S1, .f32⟩
  | .hbm, ⟨100, _⟩ => ⟨S_, .f32⟩
  | .hbm, ⟨101, _⟩ => ⟨S_, .i32⟩
  | .hbm, ⟨102, _⟩ => ⟨S_, .i1⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i1⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S1x4, .f32⟩
  | .hbm, ⟨115, _⟩ => ⟨S4, .f32⟩
  | .hbm, ⟨116, _⟩ => ⟨S1, .f32⟩
  | .hbm, ⟨117, _⟩ => ⟨S500, .f32⟩
  | .hbm, ⟨118, _⟩ => ⟨S1x4, .f32⟩
  | .hbm, ⟨119, _⟩ => ⟨S_, .i32⟩
  | .hbm, ⟨120, _⟩ => ⟨S500x4, .f32⟩
  | .hbm, ⟨121, _⟩ => ⟨S_, .i32⟩
  | .hbm, ⟨122, _⟩ => ⟨S_, .i32⟩
  | .hbm, ⟨123, _⟩ => ⟨S500x1, .f32⟩
  | .hbm, ⟨124, _⟩ => ⟨S500x5, .f32⟩
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_cst_2 : Ref sig .tc := ⟨.hbm, 40, rfl⟩
abbrev main_v10 : Ref sig .tc := ⟨.hbm, 41, rfl⟩
abbrev main_c_3 : Ref sig .tc := ⟨.hbm, 42, rfl⟩
abbrev main_v11_0 : Ref sig .tc := ⟨.hbm, 43, rfl⟩
abbrev main_v11_1 : Ref sig .tc := ⟨.hbm, 44, rfl⟩
abbrev main_v11_2 : Ref sig .tc := ⟨.hbm, 45, rfl⟩
abbrev main_v11_3 : Ref sig .tc := ⟨.hbm, 46, rfl⟩
abbrev main_v11_4 : Ref sig .tc := ⟨.hbm, 47, rfl⟩
abbrev main_v11_5 : Ref sig .tc := ⟨.hbm, 48, rfl⟩
abbrev main_v11_6 : Ref sig .tc := ⟨.hbm, 49, rfl⟩
abbrev main_while0c_c_10 : Ref sig .tc := ⟨.hbm, 50, rfl⟩
abbrev main_while0c_v14 : Ref sig .tc := ⟨.hbm, 51, rfl⟩
abbrev main_while0b_cst_10 : Ref sig .tc := ⟨.hbm, 52, rfl⟩
abbrev main_while0b_call1_v0 : Ref sig .tc := ⟨.hbm, 53, rfl⟩
abbrev main_while0b_call1_v1 : Ref sig .tc := ⟨.hbm, 54, rfl⟩
abbrev main_while0b_v14 : Ref sig .tc := ⟨.hbm, 55, rfl⟩
abbrev main_while0b_call2_v0 : Ref sig .tc := ⟨.hbm, 56, rfl⟩
abbrev main_while0b_call2_cst : Ref sig .tc := ⟨.hbm, 57, rfl⟩
abbrev main_while0b_call2_c : Ref sig .tc := ⟨.hbm, 58, rfl⟩
abbrev main_while0b_call2_v1_0 : Ref sig .tc := ⟨.hbm, 59, rfl⟩
abbrev main_while0b_v15 : Ref sig .tc := ⟨.hbm, 60, rfl⟩
abbrev main_while0b_c_11 : Ref sig .tc := ⟨.hbm, 61, rfl⟩
abbrev main_while0b_v16 : Ref sig .tc := ⟨.hbm, 62, rfl⟩
abbrev main_while0b_c_12 : Ref sig .tc := ⟨.hbm, 63, rfl⟩
abbrev main_while0b_v17 : Ref sig .tc := ⟨.hbm, 64, rfl⟩
abbrev main_while0b_v18 : Ref sig .tc := ⟨.hbm, 65, rfl⟩
abbrev main_while0b_c_13 : Ref sig .tc := ⟨.hbm, 66, rfl⟩
abbrev main_while0b_c_14 : Ref sig .tc := ⟨.hbm, 67, rfl⟩
abbrev main_while0b_v19 : Ref sig .tc := ⟨.hbm, 68, rfl⟩
abbrev main_while0b_c_15 : Ref sig .tc := ⟨.hbm, 69, rfl⟩
abbrev main_while0b_c_16 : Ref sig .tc := ⟨.hbm, 70, rfl⟩
abbrev main_while0b_v20 : Ref sig .tc := ⟨.hbm, 71, rfl⟩
abbrev main_while0b_c_17 : Ref sig .tc := ⟨.hbm, 72, rfl⟩
abbrev main_while0b_v21 : Ref sig .tc := ⟨.hbm, 73, rfl⟩
abbrev main_while0b_v22 : Ref sig .tc := ⟨.hbm, 74, rfl⟩
abbrev main_while0b_v23 : Ref sig .tc := ⟨.hbm, 75, rfl⟩
abbrev main_while0b_v24 : Ref sig .tc := ⟨.hbm, 76, rfl⟩
abbrev main_while0b_v25 : Ref sig .tc := ⟨.hbm, 77, rfl⟩
abbrev main_while0b_v26 : Ref sig .tc := ⟨.hbm, 78, rfl⟩
abbrev main_while0b_v27 : Ref sig .tc := ⟨.hbm, 79, rfl⟩
abbrev main_while0b_cst_18 : Ref sig .tc := ⟨.hbm, 80, rfl⟩
abbrev main_while0b_v28 : Ref sig .tc := ⟨.hbm, 81, rfl⟩
abbrev main_while0b_cst_19 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_c_20 : Ref sig .tc := ⟨.hbm, 86, rfl⟩
abbrev main_while0b_v32 : Ref sig .tc := ⟨.hbm, 87, rfl⟩
abbrev main_while0b_c_21 : Ref sig .tc := ⟨.hbm, 88, rfl⟩
abbrev main_while0b_v33 : Ref sig .tc := ⟨.hbm, 89, rfl⟩
abbrev main_while0b_v34 : Ref sig .tc := ⟨.hbm, 90, rfl⟩
abbrev main_while0b_v35 : Ref sig .tc := ⟨.hbm, 91, rfl⟩
abbrev main_while0b_c_22 : Ref sig .tc := ⟨.hbm, 92, rfl⟩
abbrev main_while0b_v36 : Ref sig .tc := ⟨.hbm, 93, rfl⟩
abbrev main_while0b_c_23 : Ref sig .tc := ⟨.hbm, 94, rfl⟩
abbrev main_while0b_v37 : Ref sig .tc := ⟨.hbm, 95, rfl⟩
abbrev main_while0b_c_24 : Ref sig .tc := ⟨.hbm, 96, rfl⟩
abbrev main_while0b_v38 : Ref sig .tc := ⟨.hbm, 97, rfl⟩
abbrev main_while0b_v39 : Ref sig .tc := ⟨.hbm, 98, rfl⟩
abbrev main_while0b_v40 : Ref sig .tc := ⟨.hbm, 99, rfl⟩
abbrev main_while0b_v41 : Ref sig .tc := ⟨.hbm, 100, rfl⟩
abbrev main_while0b_c_25 : Ref sig .tc := ⟨.hbm, 101, rfl⟩
abbrev main_while0b_v42 : Ref sig .tc := ⟨.hbm, 102, rfl⟩
abbrev main_while0b_c_26 : Ref sig .tc := ⟨.hbm, 103, rfl⟩
abbrev main_while0b_v43 : Ref sig .tc := ⟨.hbm, 104, rfl⟩
abbrev main_while0b_v44 : Ref sig .tc := ⟨.hbm, 105, rfl⟩
abbrev main_while0b_c_27 : Ref sig .tc := ⟨.hbm, 106, rfl⟩
abbrev main_while0b_c_28 : Ref sig .tc := ⟨.hbm, 107, rfl⟩
abbrev main_while0b_v45 : Ref sig .tc := ⟨.hbm, 108, rfl⟩
abbrev main_while0b_c_29 : Ref sig .tc := ⟨.hbm, 109, rfl⟩
abbrev main_while0b_c_30 : Ref sig .tc := ⟨.hbm, 110, rfl⟩
abbrev main_while0b_v46 : Ref sig .tc := ⟨.hbm, 111, rfl⟩
abbrev main_while0b_c_31 : Ref sig .tc := ⟨.hbm, 112, rfl⟩
abbrev main_while0b_v47 : Ref sig .tc := ⟨.hbm, 113, rfl⟩
abbrev main_while0b_v48 : Ref sig .tc := ⟨.hbm, 114, rfl⟩
abbrev main_while0b_v49 : Ref sig .tc := ⟨.hbm, 115, rfl⟩
abbrev main_while0b_call3_v0 : Ref sig .tc := ⟨.hbm, 116, rfl⟩
abbrev main_while0b_v50 : Ref sig .tc := ⟨.hbm, 117, rfl⟩
abbrev main_while0b_call4_v0 : Ref sig .tc := ⟨.hbm, 118, rfl⟩
abbrev main_while0b_call4_c : Ref sig .tc := ⟨.hbm, 119, rfl⟩
abbrev main_while0b_v51 : Ref sig .tc := ⟨.hbm, 120, rfl⟩
abbrev main_while0b_c_32 : Ref sig .tc := ⟨.hbm, 121, rfl⟩
abbrev main_while0b_v52 : Ref sig .tc := ⟨.hbm, 122, rfl⟩
abbrev main_v12 : Ref sig .tc := ⟨.hbm, 123, rfl⟩
abbrev main_v13 : Ref sig .tc := ⟨.hbm, 124, rfl⟩

abbrev nD : Nat := 1
abbrev τ : Topo := Topo.v7x

variable {F : FTy → Type} [FloatOps F]

abbrev main_while0_count : Scf.Loop 32 := ⟨0#32, 500#32, 1#32⟩
-- ==== Proof.KernelIdeal.Sem.lean ====
/-
  What the kernel's body computes, as plain functions of its operands: the centers, one step and the whole of the inner
  fixed-point loop, one trip of the block loop, and the block loop's state after any number of trips.
-/
module

public import proofs.«01_k».proof.Proof.Gen.KernelIdeal.Skeleton
public import proofs.«01_k».proof.Proof.Gen.KernelIdeal.Launch
public import Idealize.ShloMosaic.Lib.Tactic

@[expose] public section

noncomputable section

namespace Cert.Proof.KernelIdeal

open Cert.KernelIdeal Cert.KernelIdeal.Gen
open Idealize.ShloMosaic Idealize.ShloMosaic.TcCoe

variable {F : FTy → Type} [FloatOps F]

/-- The 128 rows of a column vector that block `k` covers. -/
def blkC (k : Fin k0_t1_loop.trips) (f : Vec F S2048x1 .f32) : Vec F S128x1 .f32 :=
  fun i => f ((Rect.unit (s := S2048x1) (k0_off1 k) S128x1.size (k0_off1_inb k)).toLoadRect.idx i)

/-- The 128 lanes of a row vector that block `k` covers. -/
def blkR (k : Fin k0_t1_loop.trips) (f : Vec F S1x2048 .f32) : Vec F S1x128 .f32 :=
  fun i => f ((Rect.unit (s := S1x2048) (k0_off2 k) S1x128.size (k0_off2_inb k)).toLoadRect.idx i)

/-- A row vector with the 128 lanes of block `k` replaced. -/
def putR (k : Fin k0_t1_loop.trips) (w : Vec F S1x128 .f32) (f : Vec F S1x2048 .f32) : Vec F S1x2048 .f32 :=
  ((Memref.whole cc0_scratch6).access (Rect.unit (s := S1x2048) (k0_off2 k) S1x128.size (k0_off2_inb k))).write (Elt F) f w
    Finset.univ

/-- Row `r` of the transposed boxes. -/
def rowOf (r : Fin 2 → Nat) (h : ∀ a, r a + S1x2048.size a ≤ S4x2048.size a) (f : Vec F S4x2048 .f32) : Vec F S1x2048 .f32 :=
  fun i => f ((Rect.unit (s := S4x2048) r S1x2048.size h).toLoadRect.idx i)

/-- A column of the boxes. -/
def colOf (r : Fin 2 → Nat) (h : ∀ a, r a + S2048x1.size a ≤ S2048x4.size a) (f : Vec F S2048x4 .f32) : Vec F S2048x1 .f32 :=
  fun i => f ((Rect.unit (s := S2048x4) r S2048x1.size h).toLoadRect.idx i)

/-- The state of the inner loop: suppression along the lanes, along the rows, the iteration count and "something changed". -/
abbrev WS (F : FTy → Type) : Type := FVec F S1x128 .f32 × FVec F S128x1 .f32 × BitVec 32 × BitVec 1

/-- Whether the inner loop goes round again. -/
def wlGo (s : WS F) : Prop := Scalar.andi (Scalar.cmpi .slt s.2.2.1 132#32) s.2.2.2 = 1#1

instance (s : WS F) : Decidable (wlGo s) := by unfold wlGo; infer_instance

/-- One round of the inner loop. -/
def wlNext (v143 : FVec F S128x128 .f32) (v147 : Vec F S128x1 .f32) (v142 : FVec F S128x128 .f32) (v145 : Vec F S1x128 .f32)
    (s : WS F) : WS F :=
  (k0_pay2 v143 v147 v142 v145 s.1, k0_pay1 v143 v147 s.1, Scalar.addi s.2.2.1 1#32,
    Scalar.ori (Scalar.cmpf .ogt (k0_pay3 v143 v147 v142 v145 s.1) (Scalar.ofBits .f32 0x00000000#32))
      (Scalar.cmpf .ogt (k0_pay4 v143 v147 s.1 s.2.1) (Scalar.ofBits .f32 0x00000000#32)))

/-- The inner loop from a state, at most `n` rounds. -/
def wl (v143 : FVec F S128x128 .f32) (v147 : Vec F S128x1 .f32) (v142 : FVec F S128x128 .f32) (v145 : Vec F S1x128 .f32) :
    ℕ → WS F → WS F
  | 0, s => s
  | n + 1, s => if wlGo s then wl v143 v147 v142 v145 n (wlNext v143 v147 v142 v145 s) else s

/-- The block loop's state: suppression along the lanes, along the rows, and the kept lanes. -/
abbrev BS (F : FTy → Type) : Type := Vec F S1x2048 .f32 × Vec F S2048x1 .f32 × Vec F S1x2048 .f32

/-- "Fewer than 500 kept so far". -/
def few (kp : Vec F S1x2048 .f32) : BitVec 1 := Scalar.cmpf .olt (k0_pay24 kp) (Scalar.ofBits .f32 0x43FA0000#32)

/-- What the inner loop leaves on block `k`. -/
def inner (cxr cyr : Vec F S1x2048 .f32) (cxc cyc : Vec F S2048x1 .f32) (k : Fin k0_t1_loop.trips)
    (s : BS F) : WS F :=
  wl (k0_pay7 k0_pay23 (blkC k cxc) (blkC k cyc) (blkR k cxr) (blkR k cyr)) (blkC k s.2.1)
    (k0_pay6 k0_pay22 (blkC k cxc) (blkC k cyc) (blkR k cxr) (blkR k cyr)) (blkR k s.1) 132
    (blkR k s.1, blkC k s.2.1, 0#32, 1#1)

/-- A trip of the block loop that is not skipped. -/
def tripGo (cxr cyr : Vec F S1x2048 .f32) (cxc cyc : Vec F S2048x1 .f32) (k : Fin k0_t1_loop.trips) (s : BS F) : BS F :=
  (k0_pay12 (blkC k cyc) (k0_pay10 (inner cxr cyr cxc cyc k s).2.1) (k0_pay11 (blkC k cxc) cxr) cyr s.1,
   k0_pay25 (k0_pay13 (blkR k cxr) (blkR k cyr) (k0_pay8 (inner cxr cyr cxc cyc k s).1) cxc cyc s.2.1),
   putR k (k0_pay9 (inner cxr cyr cxc cyc k s).1) s.2.2)

/-- A trip of the block loop. -/
def trip (cxr cyr : Vec F S1x2048 .f32) (cxc cyc : Vec F S2048x1 .f32) (k : Fin k0_t1_loop.trips) (s : BS F) : BS F :=
  if k0_cond1 (few s.2.2) = 1#1 then tripGo cxr cyr cxc cyc k s else s

/-- The block loop's state after `n` trips. -/
def bst (cxr cyr : Vec F S1x2048 .f32) (cxc cyc : Vec F S2048x1 .f32) : ℕ → BS F
  | 0 => (k0_pay19, k0_pay20, k0_pay21)
  | n + 1 => if h : n < k0_t1_loop.trips then trip cxr cyr cxc cyc ⟨n, h⟩ (bst cxr cyr cxc cyc n) else bst cxr cyr cxc cyc n

/-- The centers' first coordinate, along the lanes. -/
def cxR (bt : Vec F S4x2048 .f32) : Vec F S1x2048 .f32 :=
  k0_pay14 (rowOf ![0, 0] inb_S4x2048_S1x2048_0_0 bt) (rowOf ![2, 0] inb_S4x2048_S1x2048_2_0 bt)

/-- The centers' second coordinate, along the lanes. -/
def cyR (bt : Vec F S4x2048 .f32) : Vec F S1x2048 .f32 :=
  k0_pay15 (rowOf ![1, 0] inb_S4x2048_S1x2048_1_0 bt) (rowOf ![3, 0] inb_S4x2048_S1x2048_3_0 bt)

/-- The centers' first coordinate, along the rows. -/
def cxC (bx : Vec F S2048x4 .f32) : Vec F S2048x1 .f32 :=
  k0_pay16 (colOf ![0, 0] inb_S2048x4_S2048x1_0_0 bx) (colOf ![0, 2] inb_S2048x4_S2048x1_0_2 bx)

/-- The centers' second coordinate, along the rows. -/
def cyC (bx : Vec F S2048x4 .f32) : Vec F S2048x1 .f32 :=
  k0_pay18 (k0_pay17 (colOf ![0, 1] inb_S2048x4_S2048x1_0_1 bx)) (colOf ![0, 3] inb_S2048x4_S2048x1_0_3 bx)

/-- What the body stores: from the scores as a column, the boxes and the transposed boxes. -/
def out (sc : Vec F S2048x1 .f32) (bx : Vec F S2048x4 .f32) (bt : Vec F S4x2048 .f32) : Vec F S500x5 .f32 :=
  k0_pay26 (bst (cxR bt) (cyR bt) (cxC bx) (cyC bx) k0_t1_loop.trips).2.2 bx sc

end Cert.Proof.KernelIdeal

end
-- ==== Proof.KernelIdeal.While.lean ====
/-
  The inner fixed-point loop: its label is answered by the pure loop `wl`, and a trip of the block loop takes the seven scratch buffers from one state
  of the block loop to the next.
-/
module

public import proofs.«01_k».proof.Proof.KernelIdeal.Sem
public import proofs.«01_k».proof.Proof.Gen.KernelIdeal.Loops
public import proofs.«01_k».proof.Proof.Gen.KernelIdeal.Points
public import Idealize.ShloMosaic.Lib.Pipeline.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Variants are natural numbers: the rounds still allowed. -/
abbrev 𝒱n : Variants := Variants.nat

/-- The iteration count with `n` rounds still allowed. -/
def ctr (n : ℕ) : BitVec 32 := BitVec.ofNat 32 (132 - n)

/-- With no round left the count is at its bound. -/
theorem ctr_zero_not (b : BitVec 1) : ¬ Scalar.andi (Scalar.cmpi .slt (ctr 0) 132#32) b = 1#1 := by
  revert b; decide

/-- One more iteration is one round fewer. -/
theorem ctr_succ (n : ℕ) (h : n + 1 ≤ 132) : Scalar.addi (ctr (n + 1)) 1#32 = ctr n := by
  have e : ∀ a b : BitVec 32, Scalar.addi a b = a + b := fun _ _ => rfl
  rw [e]
  unfold ctr
  apply BitVec.eq_of_toNat_eq
  simp [BitVec.toNat_add, BitVec.toNat_ofNat]
  omega

/-- The label's answer at `n` rounds left: nothing held, the pure loop's value returned. -/
def wspec (v143 : FVec F S128x128 .f32) (v147 : Vec F S128x1 .f32) (v142 : FVec F S128x128 .f32) (v145 : Vec F S1x128 .f32)
    (n : ℕ) (s : WS F) : sWPT 𝕄 (FVec F S1x128 .f32 × FVec F S128x1 .f32 × BitVec 32 × BitVec 1) :=
  pure (wl v143 v147 v142 v145 n s)

/-- The label's answer, under a continuation. -/
theorem wspec_apply (v143 : FVec F S128x128 .f32) (v147 : Vec F S128x1 .f32) (v142 : FVec F S128x128 .f32)
    (v145 : Vec F S1x128 .f32) (n : ℕ) (s : WS F)
    (K : FVec F S1x128 .f32 × FVec F S128x1 .f32 × BitVec 32 × BitVec 1 → sProp 𝕄) :
    wspec v143 v147 v142 v145 n s K = K (wl v143 v147 v142 v145 n s) := rfl

/-- The label's body meets its answer, by induction on the rounds left. -/
theorem wspec_le (c : Dev nD) (E : Set ℕ) (t : Fin k0_t1_loop.trips) (v116 : BitVec 1) (h1 : k0_cond1 v116 = 1#1)
    (v143 : FVec F S128x128 .f32) (v147 : Vec F S128x1 .f32) (v142 : FVec F S128x128 .f32) (v145 : Vec F S1x128 .f32) :
    ∀ n, n ≤ 132 → ∀ sr sc ch K, wspec v143 v147 v142 v145 n (sr, sc, ctr n, ch) K
      ⊢ wp frame (wpE (defs₀ (F := F)) 𝒱n (c : Thread nD τ) (some n)) E
          (defs₀ (F := F) .tc 1 ⟨t, v116, h1, v143, v147, v142, v145, sr, sc, ctr n, ch⟩) K := by
  intro n
  induction n with
  | zero =>
    intro _ sr sc ch K
    rw [wspec_apply]
    show _ ⊢ wp frame (wpE (defs₀ (F := F)) 𝒱n (c : Thread nD τ) (some 0)) E
      (cc0_while1 t v116 h1 v143 v147 v142 v145 sr sc (ctr 0) ch) K
    simp only [cc0_while1_eq_skeleton]; unfold cc0_while1_skel
    rw [if_neg (ctr_zero_not ch)]
    simp only [Prog.pure_eq_ret]
    iintro Hk
    rw [wp_ret]; imodintro
    simp only [wl]
    iexact Hk
  | succ n ih =>
    intro hn sr sc ch K
    rw [wspec_apply]
    show _ ⊢ wp frame (wpE (defs₀ (F := F)) 𝒱n (c : Thread nD τ) (some (n + 1))) E
      (cc0_while1 t v116 h1 v143 v147 v142 v145 sr sc (ctr (n + 1)) ch) K
    simp only [cc0_while1_eq_skeleton]; unfold cc0_while1_skel
    by_cases hgo : Scalar.andi (Scalar.cmpi .slt (ctr (n + 1)) 132#32) ch = 1#1
    · simp only [hgo, ↓reduceIte, Prog.lift, Prog.bind_op, Prog.bind_ret, Prog.pure_eq_ret]
      rw [wl, if_pos (show wlGo (sr, sc, ctr (n + 1), ch) from hgo)]
      unfold wlNext
      dsimp only
      rw [ctr_succ n hn]
      iintro Hk
      iapply (wp_call_spec 𝒱n (c : Thread nD τ) (some (n + 1)) E (wspec v143 v147 v142 v145 n _) n
        (fun u hu => by cases hu; exact Nat.lt_succ_self n) (ih (Nat.le_of_succ_le hn) _ _ _))
      rw [wspec_apply]
      rw [wp_ret]; imodintro
      iexact Hk
    · rw [if_neg hgo, wl, if_neg (show ¬ wlGo (sr, sc, ctr (n + 1), ch) from hgo)]
      simp only [Prog.pure_eq_ret]
      iintro Hk
      rw [wp_ret]; imodintro
      iexact Hk

/-- A buffer of the core held whole at its contents. -/
abbrev pt (c : Dev nD) (b : Ref sig .tc) (f : Buf (Elt F) (((c : Dev nD) : Thread nD τ).loc b)) : sProp 𝕄 :=
  iprop(((c : Thread nD τ).loc b) ↦{fullShare} f)

/-- What the block loop holds after `n` trips: the centers as stored, and the block loop's state. -/
def binv (c : Dev nD) (cxr cyr : Vec F S1x2048 .f32) (cxc cyc : Vec F S2048x1 .f32) (n : ℕ) (_ : Unit) : sProp 𝕄 :=
  iprop(pt c cc0_scratch0 cxr ∗ pt c cc0_scratch1 cyr ∗ pt c cc0_scratch2 cxc ∗ pt c cc0_scratch3 cyc
    ∗ pt c cc0_scratch4 (bst cxr cyr cxc cyc n).1 ∗ pt c cc0_scratch5 (bst cxr cyr cxc cyc n).2.1
    ∗ pt c cc0_scratch6 (bst cxr cyr cxc cyc n).2.2)

/-- The origin, as a function. -/
theorem off00 : (![0, 0] : Fin 2 → ℕ) = fun _ => 0 := funext fun a => by fin_cases a <;> rfl

omit [FloatOps F] in
/-- A load of the whole of scratch buffer 0. -/
theorem rd0 (f : Vec F S1x2048 .f32) : View.readAt (Elt F) (Memref.whole cc0_scratch0).view
    (Rect.unit (s := S1x2048) ![0, 0] ![1, 2048] inb_S1x2048_S1x2048_0_0).toLoadRect f = f :=
  Memref.readAt_unit_zero (Elt F) cc0_scratch0 off00 _ f

omit [FloatOps F] in
/-- A load of the whole of scratch buffer 1. -/
theorem rd1 (f : Vec F S1x2048 .f32) : View.readAt (Elt F) (Memref.whole cc0_scratch1).view
    (Rect.unit (s := S1x2048) ![0, 0] ![1, 2048] inb_S1x2048_S1x2048_0_0).toLoadRect f = f :=
  Memref.readAt_unit_zero (Elt F) cc0_scratch1 off00 _ f

omit [FloatOps F] in
/-- A load of the whole of scratch buffer 4. -/
theorem rd4 (f : Vec F S1x2048 .f32) : View.readAt (Elt F) (Memref.whole cc0_scratch4).view
    (Rect.unit (s := S1x2048) ![0, 0] ![1, 2048] inb_S1x2048_S1x2048_0_0).toLoadRect f = f :=
  Memref.readAt_unit_zero (Elt F) cc0_scratch4 off00 _ f

omit [FloatOps F] in
/-- A load of the whole of scratch buffer 6. -/
theorem rd6 (f : Vec F S1x2048 .f32) : View.readAt (Elt F) (Memref.whole cc0_scratch6).view
    (Rect.unit (s := S1x2048) ![0, 0] ![1, 2048] inb_S1x2048_S1x2048_0_0).toLoadRect f = f :=
  Memref.readAt_unit_zero (Elt F) cc0_scratch6 off00 _ f

omit [FloatOps F] in
/-- A load of the whole of scratch buffer 2. -/
theorem rd2 (f : Vec F S2048x1 .f32) : View.readAt (Elt F) (Memref.whole cc0_scratch2).view
    (Rect.unit (s := S2048x1) ![0, 0] ![2048, 1] inb_S2048x1_S2048x1_0_0).toLoadRect f = f :=
  Memref.readAt_unit_zero (Elt F) cc0_scratch2 off00 _ f

omit [FloatOps F] in
/-- A load of the whole of scratch buffer 3. -/
theorem rd3 (f : Vec F S2048x1 .f32) : View.readAt (Elt F) (Memref.whole cc0_scratch3).view
    (Rect.unit (s := S2048x1) ![0, 0] ![2048, 1] inb_S2048x1_S2048x1_0_0).toLoadRect f = f :=
  Memref.readAt_unit_zero (Elt F) cc0_scratch3 off00 _ f

omit [FloatOps F] in
/-- A load of the whole of scratch buffer 5. -/
theorem rd5 (f : Vec F S2048x1 .f32) : View.readAt (Elt F) (Memref.whole cc0_scratch5).view
    (Rect.unit (s := S2048x1) ![0, 0] ![2048, 1] inb_S2048x1_S2048x1_0_0).toLoadRect f = f :=
  Memref.readAt_unit_zero (Elt F) cc0_scratch5 off00 _ f

omit [FloatOps F] in
/-- A store to the whole of scratch buffer 0. -/
theorem wr0 (f w : Vec F S1x2048 .f32) : ((Memref.whole cc0_scratch0).access
    (Rect.unit (s := S1x2048) ![0, 0] ![1, 2048] inb_S1x2048_S1x2048_0_0)).write (Elt F) f w Finset.univ = w :=
  Memref.write_access_unit_zero_univ (Elt F) cc0_scratch0 off00 _ f w

omit [FloatOps F] in
/-- A store to the whole of scratch buffer 1. -/
theorem wr1 (f w : Vec F S1x2048 .f32) : ((Memref.whole cc0_scratch1).access
    (Rect.unit (s := S1x2048) ![0, 0] ![1, 2048] inb_S1x2048_S1x2048_0_0)).write (Elt F) f w Finset.univ = w :=
  Memref.write_access_unit_zero_univ (Elt F) cc0_scratch1 off00 _ f w

omit [FloatOps F] in
/-- A store to the whole of scratch buffer 4. -/
theorem wr4 (f w : Vec F S1x2048 .f32) : ((Memref.whole cc0_scratch4).access
    (Rect.unit (s := S1x2048) ![0, 0] ![1, 2048] inb_S1x2048_S1x2048_0_0)).write (Elt F) f w Finset.univ = w :=
  Memref.write_access_unit_zero_univ (Elt F) cc0_scratch4 off00 _ f w

omit [FloatOps F] in
/-- A store to the whole of scratch buffer 6. -/
theorem wr6 (f w : Vec F S1x2048 .f32) : ((Memref.whole cc0_scratch6).access
    (Rect.unit (s := S1x2048) ![0, 0] ![1, 2048] inb_S1x2048_S1x2048_0_0)).write (Elt F) f w Finset.univ = w :=
  Memref.write_access_unit_zero_univ (Elt F) cc0_scratch6 off00 _ f w

omit [FloatOps F] in
/-- A store to the whole of scratch buffer 2. -/
theorem wr2 (f w : Vec F S2048x1 .f32) : ((Memref.whole cc0_scratch2).access
    (Rect.unit (s := S2048x1) ![0, 0] ![2048, 1] inb_S2048x1_S2048x1_0_0)).write (Elt F) f w Finset.univ = w :=
  Memref.write_access_unit_zero_univ (Elt F) cc0_scratch2 off00 _ f w

omit [FloatOps F] in
/-- A store to the whole of scratch buffer 3. -/
theorem wr3 (f w : Vec F S2048x1 .f32) : ((Memref.whole cc0_scratch3).access
    (Rect.unit (s := S2048x1) ![0, 0] ![2048, 1] inb_S2048x1_S2048x1_0_0)).write (Elt F) f w Finset.univ = w :=
  Memref.write_access_unit_zero_univ (Elt F) cc0_scratch3 off00 _ f w

omit [FloatOps F] in
/-- A store to the whole of scratch buffer 5. -/
theorem wr5 (f w : Vec F S2048x1 .f32) : ((Memref.whole cc0_scratch5).access
    (Rect.unit (s := S2048x1) ![0, 0] ![2048, 1] inb_S2048x1_S2048x1_0_0)).write (Elt F) f w Finset.univ = w :=
  Memref.write_access_unit_zero_univ (Elt F) cc0_scratch5 off00 _ f w

set_option maxHeartbeats 4000000 in
/-- One trip of the block loop: from what is held after `k` trips to what is held after `k + 1`. -/
theorem trip_sound (c : Dev nD) (cxr cyr : Vec F S1x2048 .f32) (cxc cyc : Vec F S2048x1 .f32)
    (h0 : (Memref.whole cc0_stg0_0).IsWhole) (h1 : (Memref.whole cc0_stg1_0).IsWhole) (h2 : (Memref.whole cc0_stg2_0).IsWhole)
    (h3 : (Memref.whole cc0_stg3_0).IsWhole) (h4 : (Memref.whole cc0_stg4_0).IsWhole) (h5 : (Memref.whole cc0_scratch0).IsWhole)
    (h6 : (Memref.whole cc0_scratch1).IsWhole) (h7 : (Memref.whole cc0_scratch2).IsWhole) (h8 : (Memref.whole cc0_scratch3).IsWhole)
    (h9 : (Memref.whole cc0_scratch4).IsWhole) (h10 : (Memref.whole cc0_scratch5).IsWhole) (h11 : (Memref.whole cc0_scratch6).IsWhole)
    (k : Fin k0_t1_loop.trips) (acc : Unit) (z : BitVec 32) :
    binv c cxr cyr cxc cyc k acc
      ⊢ wp frame (wpE (defs₀ (F := F)) 𝒱n (c : Thread nD τ) none) Set.univ
          (k0_t1_body (Memref.whole cc0_stg0_0) h0 (Memref.whole cc0_stg1_0) h1 (Memref.whole cc0_stg2_0) h2
            (Memref.whole cc0_stg3_0) h3 (Memref.whole cc0_stg4_0) h4 (Memref.whole cc0_scratch0) h5
            (Memref.whole cc0_scratch1) h6 (Memref.whole cc0_scratch2) h7 (Memref.whole cc0_scratch3) h8
            (Memref.whole cc0_scratch4) h9 (Memref.whole cc0_scratch5) h10 (Memref.whole cc0_scratch6) h11
            k0_pay22 k0_pay23 z k acc)
          (binv c cxr cyr cxc cyc (k.val + 1)) := by
  have hst : bst cxr cyr cxc cyc (k.val + 1) = trip cxr cyr cxc cyc k (bst cxr cyr cxc cyc k.val) := by
    rw [bst, dif_pos k.isLt]
  unfold binv
  rw [hst]
  generalize bst cxr cyr cxc cyc k.val = s
  obtain ⟨sr, sc, kp⟩ := s
  unfold k0_t1_body
  simp only [Prog.lift, Prog.bind_op, Prog.bind_ret, Prog.pure_eq_ret]
  iintro ⟨H0, H1, H2, H3, H4, H5, H6⟩
  iapply (wp_load 𝒱n (c : Thread nD τ) none Set.univ (m := Memref.whole cc0_scratch6) (Finset.subset_univ _)) $$ H6; iintro H6
  rw [rd6]
  by_cases hc : k0_cond1 (few kp) = 1#1
  · have hc' : k0_cond1 (Scalar.cmpf .olt (k0_pay24 kp) (Scalar.ofBits .f32 0x43FA0000#32)) = 1#1 := hc
    rw [dif_pos hc']
    rw [trip, if_pos hc]
    simp only [k0_part1_eq_skeleton, k0_part2_eq_skeleton]
    unfold k0_part1_skel k0_part2_skel
    simp only [Prog.lift, Prog.bind_op, Prog.bind_ret, Prog.pure_eq_ret]
    iapply (wp_load 𝒱n (c : Thread nD τ) none Set.univ (m := Memref.whole cc0_scratch2) (Finset.subset_univ _)) $$ H2; iintro H2
    iapply (wp_load 𝒱n (c : Thread nD τ) none Set.univ (m := Memref.whole cc0_scratch3) (Finset.subset_univ _)) $$ H3; iintro H3
    iapply (wp_load 𝒱n (c : Thread nD τ) none Set.univ (m := Memref.whole cc0_scratch0) (Finset.subset_univ _)) $$ H0; iintro H0
    iapply (wp_load 𝒱n (c : Thread nD τ) none Set.univ (m := Memref.whole cc0_scratch1) (Finset.subset_univ _)) $$ H1; iintro H1
    iapply (wp_load 𝒱n (c : Thread nD τ) none Set.univ (m := Memref.whole cc0_scratch4) (Finset.subset_univ _)) $$ H4; iintro H4
    iapply (wp_load 𝒱n (c : Thread nD τ) none Set.univ (m := Memref.whole cc0_scratch5) (Finset.subset_univ _)) $$ H5; iintro H5
    have hw := wspec_le (F := F) c Set.univ k (Scalar.cmpf .olt (k0_pay24 kp) (Scalar.ofBits .f32 0x43FA0000#32)) hc'
      (k0_pay7 k0_pay23 (blkC k cxc) (blkC k cyc) (blkR k cxr) (blkR k cyr)) (blkC k sc)
      (k0_pay6 k0_pay22 (blkC k cxc) (blkC k cyc) (blkR k cxr) (blkR k cyr)) (blkR k sr) 132 le_rfl
      (blkR k sr) (blkC k sc) 1#1
    iapply (wp_call_spec 𝒱n (c : Thread nD τ) none Set.univ (wspec
      (k0_pay7 k0_pay23 (blkC k cxc) (blkC k cyc) (blkR k cxr) (blkR k cyr)) (blkC k sc)
      (k0_pay6 k0_pay22 (blkC k cxc) (blkC k cyc) (blkR k cxr) (blkR k cyr)) (blkR k sr) 132
      (blkR k sr, blkC k sc, ctr 132, 1#1)) 132 (fun u hu => nomatch hu) hw)
    rw [wspec_apply]
    iapply (wp_load 𝒱n (c : Thread nD τ) none Set.univ (m := Memref.whole cc0_scratch6) (Finset.subset_univ _)) $$ H6; iintro H6
    iapply (wp_store 𝒱n (c : Thread nD τ) none Set.univ (m := Memref.whole cc0_scratch6)
      (r := Rect.unit (s := S1x2048) (k0_off2 k) S1x128.size (k0_off2_inb k)) (Mk := Finset.univ) (Finset.subset_univ _)) $$ H6; iintro H6
    iapply (wp_load 𝒱n (c : Thread nD τ) none Set.univ (m := Memref.whole cc0_scratch0) (Finset.subset_univ _)) $$ H0; iintro H0
    rw [rd0]
    iapply (wp_load 𝒱n (c : Thread nD τ) none Set.univ (m := Memref.whole cc0_scratch1) (Finset.subset_univ _)) $$ H1; iintro H1
    rw [rd1]
    iapply (wp_load 𝒱n (c : Thread nD τ) none Set.univ (m := Memref.whole cc0_scratch4) (Finset.subset_univ _)) $$ H4; iintro H4
    rw [rd4]
    iapply (wp_load 𝒱n (c : Thread nD τ) none Set.univ (m := Memref.whole cc0_scratch4) (Finset.subset_univ _)) $$ H4; iintro H4
    iapply (wp_store 𝒱n (c : Thread nD τ) none Set.univ (m := Memref.whole cc0_scratch4)
      (r := Rect.unit (s := S1x2048) ![0, 0] S1x2048.size inb_S1x2048_S1x2048_0_0) (Mk := Finset.univ) (Finset.subset_univ _)) $$ H4; iintro H4
    rw [wr4]
    iapply (wp_load 𝒱n (c : Thread nD τ) none Set.univ (m := Memref.whole cc0_scratch2) (Finset.subset_univ _)) $$ H2; iintro H2
    rw [rd2]
    iapply (wp_load 𝒱n (c : Thread nD τ) none Set.univ (m := Memref.whole cc0_scratch3) (Finset.subset_univ _)) $$ H3; iintro H3
    rw [rd3]
    iapply (wp_load 𝒱n (c : Thread nD τ) none Set.univ (m := Memref.whole cc0_scratch5) (Finset.subset_univ _)) $$ H5; iintro H5
    rw [rd5]
    iapply (wp_load 𝒱n (c : Thread nD τ) none Set.univ (m := Memref.whole cc0_scratch5) (Finset.subset_univ _)) $$ H5; iintro H5
    iapply (wp_store 𝒱n (c : Thread nD τ) none Set.univ (m := Memref.whole cc0_scratch5)
      (r := Rect.unit (s := S2048x1) ![0, 0] S2048x1.size inb_S2048x1_S2048x1_0_0) (Mk := Finset.univ) (Finset.subset_univ _)) $$ H5; iintro H5
    rw [wr5]
    rw [wp_ret]; imodintro
    isplitl [H0]; · iexact H0
    isplitl [H1]; · iexact H1
    isplitl [H2]; · iexact H2
    isplitl [H3]; · iexact H3
    isplitl [H4]; · iexact H4
    isplitl [H5]; · iexact H5
    iexact H6
  · have hc' : ¬ k0_cond1 (Scalar.cmpf .olt (k0_pay24 kp) (Scalar.ofBits .f32 0x43FA0000#32)) = 1#1 := hc
    rw [dif_neg hc']
    rw [trip, if_neg hc]
    simp only [Prog.lift, Prog.bind_op, Prog.bind_ret, Prog.pure_eq_ret]
    rw [wp_ret]; imodintro
    isplitl [H0]; · iexact H0
    isplitl [H1]; · iexact H1
    isplitl [H2]; · iexact H2
    isplitl [H3]; · iexact H3
    isplitl [H4]; · iexact H4
    isplitl [H5]; · iexact H5
    iexact H6

end Cert.Proof.KernelIdeal

end
-- ==== Proof.KernelIdeal.Body.lean ====
/-
  The kernel's body at the pipeline's one point: from the staged scores, boxes and transposed boxes it leaves `out` of them
  in the result's staging buffer. Then the pipeline's proof data and the run of the program.
-/
module

public import proofs.«01_k».proof.Proof.KernelIdeal.While

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region finds in a buffer of core `c`: the host operations before it, run on the initial memory. -/
def V (c : Dev nD) (b : Ref sig .tc) : Buf (Elt F) ((c.tc : Thread nD τ).loc b) :=
  StableHlo.after ([hostOps0, hostOps0_1, hostOps0_2] : List (List (HloOp τ sig (Elt F)))).flatten (fun b => m (c, b)) b

/-- The staged row of scores, column of scores, boxes and transposed boxes. -/
def s0 (c : Dev nD) (t : Fin (cfg0 (F := F)).N) : Vec F S1x2048 .f32 := (win0_0.blk t).view.read (Elt F) (V m c main_v5)
/-- The column of scores, as the body finds it. -/
def s1 (c : Dev nD) (t : Fin (cfg0 (F := F)).N) : Vec F S2048x1 .f32 := (win0_1.blk t).view.read (Elt F) (V m c main_v6)
/-- The matrix of boxes, as the body finds it. -/
def s2 (c : Dev nD) (t : Fin (cfg0 (F := F)).N) : Vec F S2048x4 .f32 := (win0_2.blk t).view.read (Elt F) (V m c main_v4)
/-- The transposed matrix of boxes, as the body finds it. -/
def s3 (c : Dev nD) (t : Fin (cfg0 (F := F)).N) : Vec F S4x2048 .f32 := (win0_3.blk t).view.read (Elt F) (V m c main_v7)

/-- The pipeline's proof data: the arrays as the region finds them, the inputs' buffers left at their blocks, the result's at
    `out` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => s0 m c t
    | ⟨1, _⟩ => s1 m c t
    | ⟨2, _⟩ => s2 m c t
    | ⟨3, _⟩ => s3 m c t
    | ⟨4, _⟩ => out (s1 m c t) (s2 m c t) (s3 m c t)
  Φ _ := Pipeline.ΦA spec0 c
  q _ := fullShare
  owed _ := 0

/-- The contents of window 0 after the body. -/
theorem after_0 (c : Dev nD) (t) : (dats m 0 c).after 0 t = s0 m c t := rfl
/-- The contents of window 1 after the body. -/
theorem after_1 (c : Dev nD) (t) : (dats m 0 c).after 1 t = s1 m c t := rfl
/-- The contents of window 2 after the body. -/
theorem after_2 (c : Dev nD) (t) : (dats m 0 c).after 2 t = s2 m c t := rfl
/-- The contents of window 3 after the body. -/
theorem after_3 (c : Dev nD) (t) : (dats m 0 c).after 3 t = s3 m c t := rfl
/-- The contents of window 4 after the body. -/
theorem after_4 (c : Dev nD) (t) : (dats m 0 c).after 4 t = out (s1 m c t) (s2 m c t) (s3 m c t) := rfl

/-- The contents of window 0 before the body. -/
theorem before_0 (c : Dev nD) (t d) : (dats m 0 c).before 0 t d = s0 m c t := by
  unfold Dat.before; rw [if_pos (fetch0_0 t)]; rfl
/-- The contents of window 1 before the body. -/
theorem before_1 (c : Dev nD) (t d) : (dats m 0 c).before 1 t d = s1 m c t := by
  unfold Dat.before; rw [if_pos (fetch0_1 t)]; rfl
/-- The contents of window 2 before the body. -/
theorem before_2 (c : Dev nD) (t d) : (dats m 0 c).before 2 t d = s2 m c t := by
  unfold Dat.before; rw [if_pos (fetch0_2 t)]; rfl
/-- The contents of window 3 before the body. -/
theorem before_3 (c : Dev nD) (t d) : (dats m 0 c).before 3 t d = s3 m c t := by
  unfold Dat.before; rw [if_pos (fetch0_3 t)]; rfl

omit [FloatOps F] in
/-- Holding a whole memref is holding its buffer. -/
theorem owns_whole (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A load of the whole matrix of boxes. -/
theorem rdA2 (f : Vec F S2048x4 .f32) : View.readAt (Elt F) (Memref.whole cc0_stg2_0).view
    (Rect.unit (s := S2048x4) ![0, 0] ![2048, 4] inb_S2048x4_S2048x4_0_0).toLoadRect f = f :=
  Memref.readAt_unit_zero (Elt F) cc0_stg2_0 off00 _ f

omit [FloatOps F] in
/-- A load of the whole column of scores. -/
theorem rdA1 (f : Vec F S2048x1 .f32) : View.readAt (Elt F) (Memref.whole cc0_stg1_0).view
    (Rect.unit (s := S2048x1) ![0, 0] ![2048, 1] inb_S2048x1_S2048x1_0_0).toLoadRect f = f :=
  Memref.readAt_unit_zero (Elt F) cc0_stg1_0 off00 _ f

omit [FloatOps F] in
/-- A store of the whole result. -/
theorem wrA4 (f w : Vec F S500x5 .f32) : ((Memref.whole cc0_stg4_0).access
    (Rect.unit (s := S500x5) ![0, 0] ![500, 5] inb_S500x5_S500x5_0_0)).write (Elt F) f w Finset.univ = w :=
  Memref.write_access_unit_zero_univ (Elt F) cc0_stg4_0 off00 _ f w

/-- The seven scratch buffers at some contents. -/
def scr (c : Dev nD) : sProp 𝕄 :=
  iprop((∃ f, pt c cc0_scratch0 f) ∗ (∃ f, pt c cc0_scratch1 f) ∗ (∃ f, pt c cc0_scratch2 f) ∗ (∃ f, pt c cc0_scratch3 f)
    ∗ (∃ f, pt c cc0_scratch4 f) ∗ (∃ f, pt c cc0_scratch5 f) ∗ (∃ f, pt c cc0_scratch6 f))

set_option maxHeartbeats 4000000 in
/-- The body, from the staged operands and any scratch, to `out` of the operands. -/
theorem body_sound (c : Dev nD)
    (h0 : (Memref.whole cc0_stg0_0).IsWhole) (h1 : (Memref.whole cc0_stg1_0).IsWhole) (h2 : (Memref.whole cc0_stg2_0).IsWhole)
    (h3 : (Memref.whole cc0_stg3_0).IsWhole) (h4 : (Memref.whole cc0_stg4_0).IsWhole) (h5 : (Memref.whole cc0_scratch0).IsWhole)
    (h6 : (Memref.whole cc0_scratch1).IsWhole) (h7 : (Memref.whole cc0_scratch2).IsWhole) (h8 : (Memref.whole cc0_scratch3).IsWhole)
    (h9 : (Memref.whole cc0_scratch4).IsWhole) (h10 : (Memref.whole cc0_scratch5).IsWhole) (h11 : (Memref.whole cc0_scratch6).IsWhole)
    (x1 : Vec F S2048x1 .f32) (x2 : Vec F S2048x4 .f32) (x3 : Vec F S4x2048 .f32) (x4 : Vec F S500x5 .f32)
    (K : PUnit → sProp 𝕄) :
    iprop(scr c ∗ pt c cc0_stg1_0 x1 ∗ pt c cc0_stg2_0 x2 ∗ pt c cc0_stg3_0 x3 ∗ pt c cc0_stg4_0 x4
        ∗ (iprop(scr c ∗ pt c cc0_stg1_0 x1 ∗ pt c cc0_stg2_0 x2 ∗ pt c cc0_stg3_0 x3 ∗ pt c cc0_stg4_0 (out x1 x2 x3)) -∗ K ⟨⟩))
      ⊢ wp frame (wpE (defs₀ (F := F)) 𝒱n (c : Thread nD τ) none) Set.univ
          (cc0__nms_body (Memref.whole cc0_stg0_0) h0 (Memref.whole cc0_stg1_0) h1 (Memref.whole cc0_stg2_0) h2
            (Memref.whole cc0_stg3_0) h3 (Memref.whole cc0_stg4_0) h4 (Memref.whole cc0_scratch0) h5
            (Memref.whole cc0_scratch1) h6 (Memref.whole cc0_scratch2) h7 (Memref.whole cc0_scratch3) h8
            (Memref.whole cc0_scratch4) h9 (Memref.whole cc0_scratch5) h10 (Memref.whole cc0_scratch6) h11) K := by
  simp only [cc0__nms_body_eq_skeleton]; unfold cc0__nms_body_skel
  simp only [k0_part5_eq_skeleton]; unfold k0_part5_skel
  simp only [k0_part3_eq_skeleton, k0_part4_eq_skeleton]
  unfold k0_part3_skel k0_part4_skel scr
  simp only [Prog.lift, Prog.bind_op, Prog.bind_ret, Prog.pure_eq_ret]
  iintro ⟨⟨⟨%f0, H0⟩, ⟨%f1, H1⟩, ⟨%f2, H2⟩, ⟨%f3, H3⟩, ⟨%f4, H4⟩, ⟨%f5, H5⟩, ⟨%f6, H6⟩⟩, A1, A2, A3, A4, Hk⟩
  iapply (wp_load 𝒱n (c : Thread nD τ) none Set.univ (m := Memref.whole cc0_stg3_0) (Finset.subset_univ _)) $$ A3; iintro A3
  iapply (wp_load 𝒱n (c : Thread nD τ) none Set.univ (m := Memref.whole cc0_stg3_0) (Finset.subset_univ _)) $$ A3; iintro A3
  iapply (wp_load 𝒱n (c : Thread nD τ) none Set.univ (m := Memref.whole cc0_scratch0) (Finset.subset_univ _)) $$ H0; iintro H0
  iapply (wp_store 𝒱n (c : Thread nD τ) none Set.univ (m := Memref.whole cc0_scratch0)
    (r := Rect.unit (s := S1x2048) ![0, 0] S1x2048.size inb_S1x2048_S1x2048_0_0) (Mk := Finset.univ) (Finset.subset_univ _)) $$ H0; iintro H0
  rw [wr0]
  iapply (wp_load 𝒱n (c : Thread nD τ) none Set.univ (m := Memref.whole cc0_stg3_0) (Finset.subset_univ _)) $$ A3; iintro A3
  iapply (wp_load 𝒱n (c : Thread nD τ) none Set.univ (m := Memref.whole cc0_stg3_0) (Finset.subset_univ _)) $$ A3; iintro A3
  iapply (wp_load 𝒱n (c : Thread nD τ) none Set.univ (m := Memref.whole cc0_scratch1) (Finset.subset_univ _)) $$ H1; iintro H1
  iapply (wp_store 𝒱n (c : Thread nD τ) none Set.univ (m := Memref.whole cc0_scratch1)
    (r := Rect.unit (s := S1x2048) ![0, 0] S1x2048.size inb_S1x2048_S1x2048_0_0) (Mk := Finset.univ) (Finset.subset_univ _)) $$ H1; iintro H1
  rw [wr1]
  iapply (wp_load 𝒱n (c : Thread nD τ) none Set.univ (m := Memref.whole cc0_stg2_0) (Finset.subset_univ _)) $$ A2; iintro A2
  iapply (wp_load 𝒱n (c : Thread nD τ) none Set.univ (m := Memref.whole cc0_stg2_0) (Finset.subset_univ _)) $$ A2; iintro A2
  iapply (wp_load 𝒱n (c : Thread nD τ) none Set.univ (m := Memref.whole cc0_scratch2) (Finset.subset_univ _)) $$ H2; iintro H2
  iapply (wp_store 𝒱n (c : Thread nD τ) none Set.univ (m := Memref.whole cc0_scratch2)
    (r := Rect.unit (s := S2048x1) ![0, 0] S2048x1.size inb_S2048x1_S2048x1_0_0) (Mk := Finset.univ) (Finset.subset_univ _)) $$ H2; iintro H2
  rw [wr2]
  iapply (wp_load 𝒱n (c : Thread nD τ) none Set.univ (m := Memref.whole cc0_stg2_0) (Finset.subset_univ _)) $$ A2; iintro A2
  iapply (wp_load 𝒱n (c : Thread nD τ) none Set.univ (m := Memref.whole cc0_stg2_0) (Finset.subset_univ _)) $$ A2; iintro A2
  iapply (wp_load 𝒱n (c : Thread nD τ) none Set.univ (m := Memref.whole cc0_scratch3) (Finset.subset_univ _)) $$ H3; iintro H3
  iapply (wp_store 𝒱n (c : Thread nD τ) none Set.univ (m := Memref.whole cc0_scratch3)
    (r := Rect.unit (s := S2048x1) ![0, 0] S2048x1.size inb_S2048x1_S2048x1_0_0) (Mk := Finset.univ) (Finset.subset_univ _)) $$ H3; iintro H3
  rw [wr3]
  iapply (wp_load 𝒱n (c : Thread nD τ) none Set.univ (m := Memref.whole cc0_scratch4) (Finset.subset_univ _)) $$ H4; iintro H4
  iapply (wp_store 𝒱n (c : Thread nD τ) none Set.univ (m := Memref.whole cc0_scratch4)
    (r := Rect.unit (s := S1x2048) ![0, 0] S1x2048.size inb_S1x2048_S1x2048_0_0) (Mk := Finset.univ) (Finset.subset_univ _)) $$ H4; iintro H4
  rw [wr4]
  iapply (wp_load 𝒱n (c : Thread nD τ) none Set.univ (m := Memref.whole cc0_scratch5) (Finset.subset_univ _)) $$ H5; iintro H5
  iapply (wp_store 𝒱n (c : Thread nD τ) none Set.univ (m := Memref.whole cc0_scratch5)
    (r := Rect.unit (s := S2048x1) ![0, 0] S2048x1.size inb_S2048x1_S2048x1_0_0) (Mk := Finset.univ) (Finset.subset_univ _)) $$ H5; iintro H5
  rw [wr5]
  iapply (wp_load 𝒱n (c : Thread nD τ) none Set.univ (m := Memref.whole cc0_scratch6) (Finset.subset_univ _)) $$ H6; iintro H6
  iapply (wp_store 𝒱n (c : Thread nD τ) none Set.univ (m := Memref.whole cc0_scratch6)
    (r := Rect.unit (s := S1x2048) ![0, 0] S1x2048.size inb_S1x2048_S1x2048_0_0) (Mk := Finset.univ) (Finset.subset_univ _)) $$ H6; iintro H6
  rw [wr6]
  rw [wp_bind]
  iapply (Scf.wp_for_bind frame (wpE (defs₀ (F := F)) 𝒱n (c : Thread nD τ) none) Set.univ k0_t1_loop.lb k0_t1_loop.ub k0_t1_loop.st k0_t1_ok _ _
    (binv c (cxR x3) (cyR x3) (cxC x2) (cyC x2))
    (fun k acc => trip_sound c (cxR x3) (cyR x3) (cxC x2) (cyC x2) h0 h1 h2 h3 h4 h5 h6 h7 h8 h9 h10 h11 k acc 0#32)) $$ [H0 H1 H2 H3 H4 H5 H6]
  · unfold binv
    isplitl [H0]; · iexact H0
    isplitl [H1]; · iexact H1
    isplitl [H2]; · iexact H2
    isplitl [H3]; · iexact H3
    isplitl [H4]; · iexact H4
    isplitl [H5]; · iexact H5
    iexact H6
  iintro %acc Hinv
  unfold binv; icases Hinv with ⟨H0, H1, H2, H3, H4, H5, H6⟩
  iapply (wp_load 𝒱n (c : Thread nD τ) none Set.univ (m := Memref.whole cc0_scratch6) (Finset.subset_univ _)) $$ H6; iintro H6
  rw [rd6]
  iapply (wp_load 𝒱n (c : Thread nD τ) none Set.univ (m := Memref.whole cc0_stg2_0) (Finset.subset_univ _)) $$ A2; iintro A2
  rw [rdA2]
  iapply (wp_load 𝒱n (c : Thread nD τ) none Set.univ (m := Memref.whole cc0_stg1_0) (Finset.subset_univ _)) $$ A1; iintro A1
  rw [rdA1]
  iapply (wp_load 𝒱n (c : Thread nD τ) none Set.univ (m := Memref.whole cc0_stg4_0) (Finset.subset_univ _)) $$ A4; iintro A4
  rw [wp_ret]; imodintro
  iapply (wp_store 𝒱n (c : Thread nD τ) none Set.univ (m := Memref.whole cc0_stg4_0)
    (r := Rect.unit (s := S500x5) ![0, 0] S500x5.size inb_S500x5_S500x5_0_0) (Mk := Finset.univ) (Finset.subset_univ _)) $$ A4; iintro A4
  rw [wrA4]
  rw [wp_ret]; imodintro
  iapply Hk
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  isplitl [A1]; · iexact A1
  isplitl [A2]; · iexact A2
  isplitl [A3]; · iexact A3
  iexact A4

end Cert.Proof.KernelIdeal

end
-- ==== Proof.KernelIdeal.Run.lean ====
/-
  The run of the kernel's program: it terminates from any memory with the arguments untouched and every counter at zero, and
  the result holds `out` of the scores, the boxes and the transposed boxes the host operations before it prepare.
-/
module

public import proofs.«01_k».proof.Proof.KernelIdeal.Body
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is called with, -/
def bodyPre (c : Dev nD) (t : Fin (cfg0 (F := F)).N) : sProp 𝕄 :=
  iprop(iprop(scr c ∗ ∃ r, prngReg c r) ∗ (dats m 0 c).owesAt () t.castSucc
    ∗ (∃ d, stg c cc0_stg0_0 ((dats m 0 c).before 0 t d)) ∗ (∃ d, stg c cc0_stg1_0 ((dats m 0 c).before 1 t d))
    ∗ (∃ d, stg c cc0_stg2_0 ((dats m 0 c).before 2 t d)) ∗ (∃ d, stg c cc0_stg3_0 ((dats m 0 c).before 3 t d))
    ∗ (∃ d, stg c cc0_stg4_0 ((dats m 0 c).before 4 t d)))

/-- and what it returns. -/
def bodyPost (c : Dev nD) (t : Fin (cfg0 (F := F)).N) : sProp 𝕄 :=
  iprop(iprop(scr c ∗ ∃ r, prngReg c r) ∗ (dats m 0 c).owesAt () t.succ
    ∗ stg c cc0_stg0_0 ((dats m 0 c).after 0 t) ∗ stg c cc0_stg1_0 ((dats m 0 c).after 1 t)
    ∗ stg c cc0_stg2_0 ((dats m 0 c).after 2 t) ∗ stg c cc0_stg3_0 ((dats m 0 c).after 3 t)
    ∗ stg c cc0_stg4_0 ((dats m 0 c).after 4 t))

/-- The body obligation at any point, its conjuncts named. -/
theorem at_point (c : Dev nD) (t : Fin (cfg0 (F := F)).N)
    (h0 : (Memref.whole cc0_stg0_0).IsWhole) (h1 : (Memref.whole cc0_stg1_0).IsWhole) (h2 : (Memref.whole cc0_stg2_0).IsWhole)
    (h3 : (Memref.whole cc0_stg3_0).IsWhole) (h4 : (Memref.whole cc0_stg4_0).IsWhole) (h5 : (Memref.whole cc0_scratch0).IsWhole)
    (h6 : (Memref.whole cc0_scratch1).IsWhole) (h7 : (Memref.whole cc0_scratch2).IsWhole) (h8 : (Memref.whole cc0_scratch3).IsWhole)
    (h9 : (Memref.whole cc0_scratch4).IsWhole) (h10 : (Memref.whole cc0_scratch5).IsWhole) (h11 : (Memref.whole cc0_scratch6).IsWhole) :
    bodyPre m c t ⊢ wp frame (wpE (defs₀ (F := F)) 𝒱n (c : Thread nD τ) none) Set.univ
      (cc0__nms_body (Memref.whole cc0_stg0_0) h0 (Memref.whole cc0_stg1_0) h1 (Memref.whole cc0_stg2_0) h2
            (Memref.whole cc0_stg3_0) h3 (Memref.whole cc0_stg4_0) h4 (Memref.whole cc0_scratch0) h5
            (Memref.whole cc0_scratch1) h6 (Memref.whole cc0_scratch2) h7 (Memref.whole cc0_scratch3) h8
            (Memref.whole cc0_scratch4) h9 (Memref.whole cc0_scratch5) h10 (Memref.whole cc0_scratch6) h11)
      (fun _ => bodyPost m c t) := by
  unfold bodyPre bodyPost
  simp only [before_0, before_1, before_2, before_3]
  rw [show (dats m 0 c).owesAt () t.succ = (dats m 0 c).owesAt () t.castSucc from rfl,
    after_0, after_1, after_2, after_3, after_4]
  iintro ⟨⟨Hs, Hr⟩, Ho, ⟨%d0, %f0, %e0, A0⟩, ⟨%d1, %f1, %e1, A1⟩, ⟨%d2, %f2, %e2, A2⟩, ⟨%d3, %f3, %e3, A3⟩, ⟨%d4, %f4, %e4, A4⟩⟩
  subst e0 e1 e2 e3
  iapply (body_sound c h0 h1 h2 h3 h4 h5 h6 h7 h8 h9 h10 h11 (s1 m c t) (s2 m c t) (s3 m c t) f4 _)
  isplitl [Hs]; · iexact Hs
  isplitl [A1]; · iexact A1
  isplitl [A2]; · iexact A2
  isplitl [A3]; · iexact A3
  isplitl [A4]; · iexact A4
  iintro ⟨Hs, A1, A2, A3, A4⟩
  isplitl [Hs Hr]
  · isplitl [Hs]; · iexact Hs
    iexact Hr
  isplitl [Ho]; · iexact Ho
  isplitl [A0]
  · iexists _; isplitr; · (ipureintro; rfl)
    iexact A0
  isplitl [A1]
  · iexists _; isplitr; · (ipureintro; rfl)
    iexact A1
  isplitl [A2]
  · iexists _; isplitr; · (ipureintro; rfl)
    iexact A2
  isplitl [A3]
  · iexists _; isplitr; · (ipureintro; rfl)
    iexact A3
  iexists _; isplitr; · (ipureintro; rfl)
  iexact A4

set_option maxRecDepth 65536 in
/-- The body obligation of the pipeline. -/
theorem body_obligation (c : Dev nD) :
    BodyObligation (dats (F := F) m 0 c) (defs₀ (F := F)) 𝒱n () Set.univ := fun t => by
  rw [bigSep_W0, bigSep_W0]
  rw [show (dats (F := F) m 0 c).Φ t.castSucc = iprop(scr c ∗ ∃ r, prngReg c r) by
      show Pipeline.ΦA spec0 c = _
      unfold Pipeline.ΦA scr
      rw [scopedRest0_eq],
    show (dats (F := F) m 0 c).Φ t.succ = iprop(scr c ∗ ∃ r, prngReg c r) by
      show Pipeline.ΦA spec0 c = _
      unfold Pipeline.ΦA scr
      rw [scopedRest0_eq]]
  sl_whnfR [defs₀, Defs.onTc]
  simp only [show ∀ x, stage0_0 x = Memref.whole cc0_stg0_0 from fun x => by fin_cases x; rfl,
    show ∀ x, stage0_1 x = Memref.whole cc0_stg1_0 from fun x => by fin_cases x; rfl,
    show ∀ x, stage0_2 x = Memref.whole cc0_stg2_0 from fun x => by fin_cases x; rfl,
    show ∀ x, stage0_3 x = Memref.whole cc0_stg3_0 from fun x => by fin_cases x; rfl,
    show ∀ x, stage0_4 x = Memref.whole cc0_stg4_0 from fun x => by fin_cases x; rfl, owns_whole]
  have h := at_point m c t (hstage0_0 0) (hstage0_1 0) (hstage0_2 0) (hstage0_3 0) (hstage0_4 0) (Memref.isWhole_whole _)
    (Memref.isWhole_whole _) (Memref.isWhole_whole _) (Memref.isWhole_whole _) (Memref.isWhole_whole _) (Memref.isWhole_whole _)
    (Memref.isWhole_whole _)
  unfold bodyPre bodyPost at h
  exact h

/-- The host operations allocate nothing. -/
theorem hmain : Pipeline.HMain (Ix := Unit) (Name := ℕ) (U := UR sig nD τ) (Lvl := ℕ) (cfgs (F := F)) 0 defs₀ 𝒱n m main (V m) :=
  Pipeline.hmain_prefixes (cfgs (F := F)) 0 defs₀ 𝒱n m main [hostOps0, hostOps0_1, hostOps0_2]
    ⟨hostOps0_sub, hostOps0_1_sub, hostOps0_2_sub⟩
    ⟨⟨rfl, rfl⟩, ⟨rfl, rfl, rfl, rfl, rfl, rfl, rfl, rfl, rfl, rfl, rfl, rfl, rfl, rfl, rfl, rfl, rfl, rfl, rfl, rfl, rfl, rfl, rfl⟩,
      ⟨rfl, rfl, rfl, rfl, rfl, rfl, rfl, rfl, rfl⟩⟩
    main_chain

set_option backward.isDefEq.respectTransparency.types false in
/-- Every fair execution terminates, with the pipeline's arrays as the proof data say, every other buffer as the region found
    it, and every counter at zero. -/
theorem run_main : θ_run defs (onTc (τ := τ) (main (F := F))) ⟨m, fun _ => 0, ρ⟩
    (fun r => Pipeline.FramePost (cfgs (F := F)) (dats m) 0 (V m) r ∧ r.2.sem = fun _ => 0) :=
  Pipeline.θ_run_frame (Q' := _) (cfgs (F := F)) (dats m) (0 : Fin 1) launch0 defs₀ 𝒱n m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-- The windows' blocks are their whole arrays. -/
theorem s1_eq (c : Dev nD) (t) : s1 m c t = V m c main_v6 :=
  Memref.read_access_unit_zero (Elt F) main_v6 (funext fun _ => Nat.zero_mul _) _ _
/-- The body finds the whole matrix of boxes. -/
theorem s2_eq (c : Dev nD) (t) : s2 m c t = V m c main_v4 :=
  Memref.read_access_unit_zero (Elt F) main_v4 (funext fun _ => Nat.zero_mul _) _ _
/-- The body finds the whole transposed matrix of boxes. -/
theorem s3_eq (c : Dev nD) (t) : s3 m c t = V m c main_v7 :=
  Memref.read_access_unit_zero (Elt F) main_v7 (funext fun _ => Nat.zero_mul _) _ _

/-- What the result holds. -/
def result (c : Dev nD) : Vec F S500x5 .f32 := out (V m c main_v6) (V m c main_v4) (V m c main_v7)

/-- The result's array after the run. -/
theorem arrAt_eq (c : Dev nD) : (dats m 0 c).arrAt 4 (cfg0 (F := F)).N = result m c := by
  have hN : (cfg0 (F := F)).N = (t0_0 : Fin (cfg0 (F := F)).N).val + 1 := rfl
  rw [hN, Pipeline.Dat.arrAt_succ, if_pos (flush0_4 _)]
  refine (Memref.write_access_unit_zero_univ (Elt F) main_v8 (funext fun _ => Nat.zero_mul _) _ _ _).trans ?_
  show out (s1 m c t0_0) (s2 m c t0_0) (s3 m c t0_0) = _
  rw [s1_eq, s2_eq, s3_eq]; rfl

/-- The buffers the host operations write, in order. -/
abbrev written : List (Ref sig .tc) :=
  [main_values, main_indices, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_v2, main_cst_0, main_v3, main_v4, main_v5, main_v6, main_v7]

/-- The host operations leave a buffer they do not write as it was. -/
theorem V_of_not_written (c : Dev nD) (b : Ref sig .tc) (h : b ∉ written) : V m c b = m ((c.tc : Thread nD τ).loc b) :=
  StableHlo.after_of_writes_sub _ _ (StableHlo.forall_writes_sub_of_map (W := written) rfl) h

/-- The host code leaves the first argument as it was. -/
theorem V_arg0 (c : Dev nD) : V m c main_arg0 = m ((c.tc : Thread nD τ).loc main_arg0) := V_of_not_written m c _ (by decide)
/-- The host code leaves the second argument as it was. -/
theorem V_arg1 (c : Dev nD) : V m c main_arg1 = m ((c.tc : Thread nD τ).loc main_arg1) := V_of_not_written m c _ (by decide)

/-- The run, read at the result, the arguments and the counters. -/
theorem run_value : θ_run defs (onTc (τ := τ) (main (F := F))) ⟨m, fun _ => 0, ρ⟩
    (fun r => (∀ c : Dev nD, r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_main m ρ) fun r h => ⟨fun c => ⟨?_, ?_, ?_⟩, h.2⟩
  · exact ((h.1 c).1 4).trans (arrAt_eq m c)
  · exact ((h.1 c).2 main_arg0 (Pipeline.mem_restRefs_of _ rfl (show ∀ w : Fin 5, (spec0 w).arr.view.ref ≠ main_arg0 by decide))).trans (V_arg0 m c)
  · exact ((h.1 c).2 main_arg1 (Pipeline.mem_restRefs_of _ rfl (show ∀ w : Fin 5, (spec0 w).arr.view.ref ≠ main_arg1 by decide))).trans (V_arg1 m c)

end Cert.Proof.KernelIdeal

end
-- ==== Proof.Reference.Ops.lean ====
module

public import proofs.«01_k».proof.Proof.Gen.ReferenceIdeal
public import Idealize.ShloMosaic.Lib.StableHlo.RunLoop

/-! The reference's host program as lists of operations: the stretches before its counted loop, the loop's condition and
    body, the stretch after it. Each list is the printed program's statements in order, a called function's included. -/

@[expose] public section

noncomputable section

namespace Cert.Proof.Reference

open Cert.ReferenceIdeal Cert.ReferenceIdeal.Gen
open Idealize.ShloMosaic Idealize.ShloMosaic.TcCoe
open Idealize.SL.Sem

variable {F : FTy → Type} [FloatOps F]

/-- The sorted scores and their positions, the 2000 largest. -/
abbrev pre0 : List (HloOp τ sig (Elt F)) :=
  [ StableHlo.unary main_arg1 main_values ((fun x => (Host.topK S2000 0 (FloatOps.cmpfTotal .gt) x sliceFits_S20000_S2000).1) : (⟨S20000, .f32⟩ : BufTy).Contents (Elt F) → (⟨S2000, .f32⟩ : BufTy).Contents (Elt F)),
    StableHlo.unary main_arg1 main_indices ((fun x => (Host.topK S2000 0 (FloatOps.cmpfTotal .gt) x sliceFits_S20000_S2000).2) : (⟨S20000, .f32⟩ : BufTy).Contents (Elt F) → (⟨S2000, .i32⟩ : BufTy).Contents (Elt F)) ]
/-- Each touches only references of a TensorCore. -/
theorem pre0_sub : (pre0 : List (HloOp τ sig (Elt F))).Forall fun op => op.bufs ⊆ StableHlo.tcRefs τ sig :=
  ⟨StableHlo.unary_bufs_sub .., StableHlo.unary_bufs_sub ..⟩

/-- The boxes taken at those positions. -/
abbrev pre1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S2000, .i32⟩) (broadcastInDim S2000 ![] bcast_S_S2000),
    StableHlo.TRef.binary (.of main_indices : StableHlo.TRef sig ⟨S2000, .i32⟩) (.of main_call0_v0 : StableHlo.TRef sig ⟨S2000, .i32⟩) (.of main_call0_v1 : StableHlo.TRef sig ⟨S2000, .i1⟩) (cmpi .slt),
    StableHlo.TRef.nullary (.of main_call0_c_0 : StableHlo.TRef sig ⟨S_, .i32⟩) (constantI S_ 32 20000#32),
    StableHlo.TRef.unary (.of main_call0_c_0 : StableHlo.TRef sig ⟨S_, .i32⟩) (.of main_call0_v2 : StableHlo.TRef sig ⟨S2000, .i32⟩) (broadcastInDim S2000 ![] bcast_S_S2000),
    StableHlo.TRef.binary (.of main_indices : StableHlo.TRef sig ⟨S2000, .i32⟩) (.of main_call0_v2 : StableHlo.TRef sig ⟨S2000, .i32⟩) (.of main_call0_v3 : StableHlo.TRef sig ⟨S2000, .i32⟩) addi,
    StableHlo.TRef.ternary (.of main_call0_v1 : StableHlo.TRef sig ⟨S2000, .i1⟩) (.of main_call0_v3 : StableHlo.TRef sig ⟨S2000, .i32⟩) (.of main_indices : StableHlo.TRef sig ⟨S2000, .i32⟩) (.of main_call0_v4 : StableHlo.TRef sig ⟨S2000, .i32⟩) select,
    StableHlo.TRef.unary (.of main_call0_v4 : StableHlo.TRef sig ⟨S2000, .i32⟩) (.of main_call0_v5 : StableHlo.TRef sig ⟨S2000x1, .i32⟩) (broadcastInDim S2000x1 ![0] bcast_S2000_S2000x1_0),
    StableHlo.TRef.nullary (.of main_call0_c_1 : StableHlo.TRef sig ⟨S1, .i32⟩) (constantI S1 32 19999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S2000x1, .i32⟩) (broadcastInDim S2000x1 ![] bcast_S_S2000x1),
    StableHlo.TRef.binary (.of main_call0_v5 : StableHlo.TRef sig ⟨S2000x1, .i32⟩) (.of main_call0_v6 : StableHlo.TRef sig ⟨S2000x1, .i32⟩) (.of main_call0_v7 : StableHlo.TRef sig ⟨S2000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S2000x1, .i32⟩) (broadcastInDim S2000x1 ![0, 1] bcast_S1x1_S2000x1_0_1),
    StableHlo.TRef.binary (.of main_call0_v5 : StableHlo.TRef sig ⟨S2000x1, .i32⟩) (.of main_call0_v9 : StableHlo.TRef sig ⟨S2000x1, .i32⟩) (.of main_call0_v10 : StableHlo.TRef sig ⟨S2000x1, .i1⟩) (cmpi .sle),
    StableHlo.TRef.binary (.of main_call0_v7 : StableHlo.TRef sig ⟨S2000x1, .i1⟩) (.of main_call0_v10 : StableHlo.TRef sig ⟨S2000x1, .i1⟩) (.of main_call0_v11 : StableHlo.TRef sig ⟨S2000x1, .i1⟩) andi,
    StableHlo.TRef.nullary (.of main_call0_c_3 : StableHlo.TRef sig ⟨S_, .i1⟩) (constantI S_ 1 1#1),
    StableHlo.TRef.binary (.of main_call0_v11 : StableHlo.TRef sig ⟨S2000x1, .i1⟩) (.of main_call0_c_3 : StableHlo.TRef sig ⟨S_, .i1⟩) (.of main_call0_v12 : StableHlo.TRef sig ⟨S2000, .i1⟩) (fun x v => Host.reduce IntOp.andi x v reducesTo_S2000x1_S2000_d1 h_S_),
    StableHlo.TRef.binary (.of main_arg0 : StableHlo.TRef sig ⟨S20000x4, .f32⟩) (.of main_call0_v5 : StableHlo.TRef sig ⟨S2000x1, .i32⟩) (.of main_call0_v13 : StableHlo.TRef sig ⟨S2000x4, .f32⟩) (fun x i => Host.gather gather_S20000x4_S2000x1_S2000x4_1_0_n_n_0_1_14 x i),
    StableHlo.TRef.unary (.of main_call0_v12 : StableHlo.TRef sig ⟨S2000, .i1⟩) (.of main_call0_v14 : StableHlo.TRef sig ⟨S2000x4, .i1⟩) (broadcastInDim S2000x4 ![0] bcast_S2000_S2000x4_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S2000x4, .f32⟩) (broadcastInDim S2000x4 ![] bcast_S_S2000x4),
    StableHlo.TRef.ternary (.of main_call0_v14 : StableHlo.TRef sig ⟨S2000x4, .i1⟩) (.of main_call0_v13 : StableHlo.TRef sig ⟨S2000x4, .f32⟩) (.of main_call0_v15 : StableHlo.TRef sig ⟨S2000x4, .f32⟩) (.of main_v0 : StableHlo.TRef sig ⟨S2000x4, .f32⟩) select ]
/-- Each touches only references of a TensorCore. -/
theorem pre1_sub : (pre1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The centres, the loop's starting values, and their copies into the carried buffers. -/
abbrev pre2 : List (HloOp τ sig (Elt F)) :=
  [ StableHlo.unary main_v0 main_v1 ((extractStridedSlice S2000x2 ![0, 0] · slices_S2000x4_S2000x2_0_0) : (⟨S2000x4, .f32⟩ : BufTy).Contents (Elt F) → (⟨S2000x2, .f32⟩ : BufTy).Contents (Elt F)),
    StableHlo.unary main_v0 main_v2 ((extractStridedSlice S2000x2 ![0, 2] · slices_S2000x4_S2000x2_0_2) : (⟨S2000x4, .f32⟩ : BufTy).Contents (Elt F) → (⟨S2000x2, .f32⟩ : BufTy).Contents (Elt F)),
    StableHlo.binary main_v1 main_v2 main_v3 (addf : (⟨S2000x2, .f32⟩ : BufTy).Contents (Elt F) → (⟨S2000x2, .f32⟩ : BufTy).Contents (Elt F) → (⟨S2000x2, .f32⟩ : BufTy).Contents (Elt F)),
    StableHlo.nullary main_cst (constant S_ .f32 0x3F000000#32),
    StableHlo.unary main_cst main_v4 (broadcastInDim S2000x2 ![] bcast_S_S2000x2 : (⟨S_, .f32⟩ : BufTy).Contents (Elt F) → (⟨S2000x2, .f32⟩ : BufTy).Contents (Elt F)),
    StableHlo.binary main_v3 main_v4 main_v5 (mulf : (⟨S2000x2, .f32⟩ : BufTy).Contents (Elt F) → (⟨S2000x2, .f32⟩ : BufTy).Contents (Elt F) → (⟨S2000x2, .f32⟩ : BufTy).Contents (Elt F)),
    StableHlo.nullary main_cst_0 (constant S_ .f32 0x44000000#32),
    StableHlo.unary main_cst_0 main_v6 (broadcastInDim S2000x2 ![] bcast_S_S2000x2 : (⟨S_, .f32⟩ : BufTy).Contents (Elt F) → (⟨S2000x2, .f32⟩ : BufTy).Contents (Elt F)),
    StableHlo.binary main_v5 main_v6 main_v7 (mulf : (⟨S2000x2, .f32⟩ : BufTy).Contents (Elt F) → (⟨S2000x2, .f32⟩ : BufTy).Contents (Elt F) → (⟨S2000x2, .f32⟩ : BufTy).Contents (Elt F)),
    StableHlo.nullary main_c (constantI S_ 1 0#1),
    StableHlo.unary main_c main_v8 (broadcastInDim S2000 ![] bcast_S_S2000 : (⟨S_, .i1⟩ : BufTy).Contents (Elt F) → (⟨S2000, .i1⟩ : BufTy).Contents (Elt F)),
    StableHlo.nullary main_cst_1 (constant S_ .f32 0x00000000#32),
    StableHlo.unary main_cst_1 main_v9 (broadcastInDim S500 ![] bcast_S_S500 : (⟨S_, .f32⟩ : BufTy).Contents (Elt F) → (⟨S500, .f32⟩ : BufTy).Contents (Elt F)),
    StableHlo.nullary main_cst_2 (constant S_ .f32 0x00000000#32),
    StableHlo.unary main_cst_2 main_v10 (broadcastInDim S500x4 ![] bcast_S_S500x4 : (⟨S_, .f32⟩ : BufTy).Contents (Elt F) → (⟨S500x4, .f32⟩ : BufTy).Contents (Elt F)),
    StableHlo.nullary main_c_3 (constantI S_ 32 0#32),
    StableHlo.unary main_values main_v11_0 id,
    StableHlo.unary main_v7 main_v11_1 id,
    StableHlo.unary main_v0 main_v11_2 id,
    StableHlo.unary main_c_3 main_v11_3 id,
    StableHlo.unary main_v8 main_v11_4 id,
    StableHlo.unary main_v9 main_v11_5 id,
    StableHlo.unary main_v10 main_v11_6 id ]
/-- Each touches only references of a TensorCore. -/
theorem pre2_sub : (pre2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The loop condition: the counter is below 500. -/
abbrev condOps : List (HloOp τ sig (Elt F)) :=
  [ StableHlo.nullary main_while0c_c_10 (constantI S_ 32 500#32),
    StableHlo.binary main_v11_3 main_while0c_c_10 main_while0c_v14 (cmpi .slt : (⟨S_, .i32⟩ : BufTy).Contents (Elt F) → (⟨S_, .i32⟩ : BufTy).Contents (Elt F) → (⟨S_, .i1⟩ : BufTy).Contents (Elt F)) ]
/-- Each touches only references of a TensorCore. -/
theorem condOps_sub : (condOps : List (HloOp τ sig (Elt F))).Forall fun op => op.bufs ⊆ StableHlo.tcRefs τ sig :=
  ⟨StableHlo.nullary_bufs_sub .., StableHlo.binary_bufs_sub ..⟩

/-- The constant minus infinity. -/
abbrev body0 : List (HloOp τ sig (Elt F)) :=
  [ StableHlo.nullary main_while0b_cst_10 (constant S_ .f32 0xFF800000#32) ]
/-- Each touches only references of a TensorCore. -/
theorem body0_sub : (body0 : List (HloOp τ sig (Elt F))).Forall fun op => op.bufs ⊆ StableHlo.tcRefs τ sig :=
  StableHlo.nullary_bufs_sub ..

/-- The scores with the suppressed ones replaced by minus infinity. -/
abbrev body1 : List (HloOp τ sig (Elt F)) :=
  [ StableHlo.TRef.unary (.of main_while0b_cst_10 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S2000, .f32⟩) (broadcastInDim S2000 ![] bcast_S_S2000),
    StableHlo.TRef.ternary (.of main_v11_4 : StableHlo.TRef sig ⟨S2000, .i1⟩) (.of main_while0b_call1_v1 : StableHlo.TRef sig ⟨S2000, .f32⟩) (.of main_v11_0 : StableHlo.TRef sig ⟨S2000, .f32⟩) (.of main_while0b_v14 : StableHlo.TRef sig ⟨S2000, .f32⟩) select ]
/-- Each touches only references of a TensorCore. -/
theorem body1_sub : (body1 : List (HloOp τ sig (Elt F))).Forall fun op => op.bufs ⊆ StableHlo.tcRefs τ sig :=
  ⟨StableHlo.unary_bufs_sub .., StableHlo.unary_bufs_sub .., StableHlo.ternary_bufs_sub ..⟩

/-- The index of the largest. -/
abbrev body2 : List (HloOp τ sig (Elt F)) :=
  [ StableHlo.TRef.nullary (.of main_while0b_call2_v0 : StableHlo.TRef sig ⟨S2000, .i32⟩) (iotaInDim S2000 32 0),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v14 : StableHlo.TRef sig ⟨S2000, .f32⟩) (.of main_while0b_call2_v0 : StableHlo.TRef sig ⟨S2000, .i32⟩) (.of main_while0b_call2_cst : StableHlo.TRef sig ⟨S_, .f32⟩) (.of main_while0b_call2_c : StableHlo.TRef sig ⟨S_, .i32⟩) (.of main_while0b_call2_v1_0 : StableHlo.TRef sig ⟨S_, .f32⟩) (fun x y u v j => (Host.argReduce reducer_argmax_f32_i32 x y u v reducesTo_S2000_S_d0 h_S_ j).1),
    StableHlo.TRef.quaternary (.of main_while0b_v14 : StableHlo.TRef sig ⟨S2000, .f32⟩) (.of main_while0b_call2_v0 : StableHlo.TRef sig ⟨S2000, .i32⟩) (.of main_while0b_call2_cst : StableHlo.TRef sig ⟨S_, .f32⟩) (.of main_while0b_call2_c : StableHlo.TRef sig ⟨S_, .i32⟩) (.of main_while0b_v15 : StableHlo.TRef sig ⟨S_, .i32⟩) (fun x y u v j => (Host.argReduce reducer_argmax_f32_i32 x y u v reducesTo_S2000_S_d0 h_S_ j).2) ]
/-- Each touches only references of a TensorCore. -/
theorem body2_sub : (body2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The squared distances to the chosen centre, the suppression they add, the chosen score and box. -/
abbrev body3 : List (HloOp τ sig (Elt F)) :=
  [ StableHlo.nullary main_while0b_c_11 (constantI S_ 32 0#32),
    StableHlo.binary main_while0b_v15 main_while0b_c_11 main_while0b_v16 (cmpi .slt : (⟨S_, .i32⟩ : BufTy).Contents (Elt F) → (⟨S_, .i32⟩ : BufTy).Contents (Elt F) → (⟨S_, .i1⟩ : BufTy).Contents (Elt F)),
    StableHlo.nullary main_while0b_c_12 (constantI S_ 32 2000#32),
    StableHlo.binary main_while0b_v15 main_while0b_c_12 main_while0b_v17 (addi : (⟨S_, .i32⟩ : BufTy).Contents (Elt F) → (⟨S_, .i32⟩ : BufTy).Contents (Elt F) → (⟨S_, .i32⟩ : BufTy).Contents (Elt F)),
    StableHlo.ternary main_while0b_v16 main_while0b_v17 main_while0b_v15 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.nullary main_while0b_c_14 (constantI S_ 32 0#32),
    StableHlo.binary main_while0b_c_13 main_while0b_c_14 main_while0b_v19 (cmpi .slt : (⟨S_, .i32⟩ : BufTy).Contents (Elt F) → (⟨S_, .i32⟩ : BufTy).Contents (Elt F) → (⟨S_, .i1⟩ : BufTy).Contents (Elt F)),
    StableHlo.nullary main_while0b_c_15 (constantI S_ 32 0#32),
    StableHlo.nullary main_while0b_c_16 (constantI S_ 32 2#32),
    StableHlo.binary main_while0b_c_15 main_while0b_c_16 main_while0b_v20 (addi : (⟨S_, .i32⟩ : BufTy).Contents (Elt F) → (⟨S_, .i32⟩ : BufTy).Contents (Elt F) → (⟨S_, .i32⟩ : BufTy).Contents (Elt F)),
    StableHlo.nullary main_while0b_c_17 (constantI S_ 32 0#32),
    StableHlo.ternary main_while0b_v19 main_while0b_v20 main_while0b_c_17 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v11_1 ![main_while0b_v18, main_while0b_v21] ⟨S_, .i32⟩ main_while0b_v22 ((fun x i => Host.dynamicSlice S1x2 x (fun k => (i k (Shape.Idx.first h_S_)).toInt) sliceFits_S2000x2_S1x2) : (⟨S2000x2, .f32⟩ : BufTy).Contents (Elt F) → (Fin 2 → (⟨S_, .i32⟩ : BufTy).Contents (Elt F)) → (⟨S1x2, .f32⟩ : BufTy).Contents (Elt F)),
    StableHlo.reshape main_while0b_v22 main_while0b_v23 (rfl : (.f32 : EltTy) = .f32) shapeCasts_S1x2_S2,
    StableHlo.unary main_while0b_v23 main_while0b_v24 (broadcastInDim S1x2 ![1] bcast_S2_S1x2_1 : (⟨S2, .f32⟩ : BufTy).Contents (Elt F) → (⟨S1x2, .f32⟩ : BufTy).Contents (Elt F)),
    StableHlo.unary main_while0b_v24 main_while0b_v25 (broadcastInDim S2000x2 ![0, 1] bcast_S1x2_S2000x2_0_1 : (⟨S1x2, .f32⟩ : BufTy).Contents (Elt F) → (⟨S2000x2, .f32⟩ : BufTy).Contents (Elt F)),
    StableHlo.binary main_v11_1 main_while0b_v25 main_while0b_v26 (subf : (⟨S2000x2, .f32⟩ : BufTy).Contents (Elt F) → (⟨S2000x2, .f32⟩ : BufTy).Contents (Elt F) → (⟨S2000x2, .f32⟩ : BufTy).Contents (Elt F)),
    StableHlo.binary main_while0b_v26 main_while0b_v26 main_while0b_v27 (mulf : (⟨S2000x2, .f32⟩ : BufTy).Contents (Elt F) → (⟨S2000x2, .f32⟩ : BufTy).Contents (Elt F) → (⟨S2000x2, .f32⟩ : BufTy).Contents (Elt F)),
    StableHlo.nullary main_while0b_cst_18 (constant S_ .f32 0x00000000#32),
    StableHlo.binary main_while0b_v27 main_while0b_cst_18 main_while0b_v28 ((fun x v => Host.reduceAdd x v reducesTo_S2000x2_S2000_d1 h_S_) : (⟨S2000x2, .f32⟩ : BufTy).Contents (Elt F) → (⟨S_, .f32⟩ : BufTy).Contents (Elt F) → (⟨S2000, .f32⟩ : BufTy).Contents (Elt F)),
    StableHlo.nullary main_while0b_cst_19 (constant S_ .f32 0x3F800000#32),
    StableHlo.unary main_while0b_cst_19 main_while0b_v29 (broadcastInDim S2000 ![] bcast_S_S2000 : (⟨S_, .f32⟩ : BufTy).Contents (Elt F) → (⟨S2000, .f32⟩ : BufTy).Contents (Elt F)),
    StableHlo.binary main_while0b_v28 main_while0b_v29 main_while0b_v30 (cmpf .olt : (⟨S2000, .f32⟩ : BufTy).Contents (Elt F) → (⟨S2000, .f32⟩ : BufTy).Contents (Elt F) → (⟨S2000, .i1⟩ : BufTy).Contents (Elt F)),
    StableHlo.binary main_v11_4 main_while0b_v30 main_while0b_v31 (ori : (⟨S2000, .i1⟩ : BufTy).Contents (Elt F) → (⟨S2000, .i1⟩ : BufTy).Contents (Elt F) → (⟨S2000, .i1⟩ : BufTy).Contents (Elt F)),
    StableHlo.nullary main_while0b_c_20 (constantI S_ 32 0#32),
    StableHlo.binary main_while0b_v15 main_while0b_c_20 main_while0b_v32 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 2000#32),
    StableHlo.binary main_while0b_v15 main_while0b_c_21 main_while0b_v33 (addi : (⟨S_, .i32⟩ : BufTy).Contents (Elt F) → (⟨S_, .i32⟩ : BufTy).Contents (Elt F) → (⟨S_, .i32⟩ : BufTy).Contents (Elt F)),
    StableHlo.ternary main_while0b_v32 main_while0b_v33 main_while0b_v15 main_while0b_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v34 main_while0b_v35 (broadcastInDim S1 ![] bcast_S_S1 : (⟨S_, .i32⟩ : BufTy).Contents (Elt F) → (⟨S1, .i32⟩ : BufTy).Contents (Elt F)),
    StableHlo.nullary main_while0b_c_22 (constantI S_ 1 1#1),
    StableHlo.ternary main_while0b_v31 main_while0b_v35 main_while0b_c_22 main_while0b_v36 ((fun x i u => Host.scatter scatter_S2000_S1_S__n_0_0_0 (fun _ b => b) x i u) : (⟨S2000, .i1⟩ : BufTy).Contents (Elt F) → (⟨S1, .i32⟩ : BufTy).Contents (Elt F) → (⟨S_, .i1⟩ : BufTy).Contents (Elt F) → (⟨S2000, .i1⟩ : BufTy).Contents (Elt F)),
    StableHlo.nullary main_while0b_c_23 (constantI S_ 32 0#32),
    StableHlo.binary main_while0b_v15 main_while0b_c_23 main_while0b_v37 (cmpi .slt : (⟨S_, .i32⟩ : BufTy).Contents (Elt F) → (⟨S_, .i32⟩ : BufTy).Contents (Elt F) → (⟨S_, .i1⟩ : BufTy).Contents (Elt F)),
    StableHlo.nullary main_while0b_c_24 (constantI S_ 32 2000#32),
    StableHlo.binary main_while0b_v15 main_while0b_c_24 main_while0b_v38 (addi : (⟨S_, .i32⟩ : BufTy).Contents (Elt F) → (⟨S_, .i32⟩ : BufTy).Contents (Elt F) → (⟨S_, .i32⟩ : BufTy).Contents (Elt F)),
    StableHlo.ternary main_while0b_v37 main_while0b_v38 main_while0b_v15 main_while0b_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v11_0 ![main_while0b_v39] ⟨S_, .i32⟩ main_while0b_v40 ((fun x i => Host.dynamicSlice S1 x (fun k => (i k (Shape.Idx.first h_S_)).toInt) sliceFits_S2000_S1) : (⟨S2000, .f32⟩ : BufTy).Contents (Elt F) → (Fin 1 → (⟨S_, .i32⟩ : BufTy).Contents (Elt F)) → (⟨S1, .f32⟩ : BufTy).Contents (Elt F)),
    StableHlo.reshape main_while0b_v40 main_while0b_v41 (rfl : (.f32 : EltTy) = .f32) shapeCasts_S1_S_,
    StableHlo.nullary main_while0b_c_25 (constantI S_ 32 0#32),
    StableHlo.binary main_while0b_v15 main_while0b_c_25 main_while0b_v42 (cmpi .slt : (⟨S_, .i32⟩ : BufTy).Contents (Elt F) → (⟨S_, .i32⟩ : BufTy).Contents (Elt F) → (⟨S_, .i1⟩ : BufTy).Contents (Elt F)),
    StableHlo.nullary main_while0b_c_26 (constantI S_ 32 2000#32),
    StableHlo.binary main_while0b_v15 main_while0b_c_26 main_while0b_v43 (addi : (⟨S_, .i32⟩ : BufTy).Contents (Elt F) → (⟨S_, .i32⟩ : BufTy).Contents (Elt F) → (⟨S_, .i32⟩ : BufTy).Contents (Elt F)),
    StableHlo.ternary main_while0b_v42 main_while0b_v43 main_while0b_v15 main_while0b_v44 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_27 (constantI S_ 32 0#32),
    StableHlo.nullary main_while0b_c_28 (constantI S_ 32 0#32),
    StableHlo.binary main_while0b_c_27 main_while0b_c_28 main_while0b_v45 (cmpi .slt : (⟨S_, .i32⟩ : BufTy).Contents (Elt F) → (⟨S_, .i32⟩ : BufTy).Contents (Elt F) → (⟨S_, .i1⟩ : BufTy).Contents (Elt F)),
    StableHlo.nullary main_while0b_c_29 (constantI S_ 32 0#32),
    StableHlo.nullary main_while0b_c_30 (constantI S_ 32 4#32),
    StableHlo.binary main_while0b_c_29 main_while0b_c_30 main_while0b_v46 (addi : (⟨S_, .i32⟩ : BufTy).Contents (Elt F) → (⟨S_, .i32⟩ : BufTy).Contents (Elt F) → (⟨S_, .i32⟩ : BufTy).Contents (Elt F)),
    StableHlo.nullary main_while0b_c_31 (constantI S_ 32 0#32),
    StableHlo.ternary main_while0b_v45 main_while0b_v46 main_while0b_c_31 main_while0b_v47 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v11_2 ![main_while0b_v44, main_while0b_v47] ⟨S_, .i32⟩ main_while0b_v48 ((fun x i => Host.dynamicSlice S1x4 x (fun k => (i k (Shape.Idx.first h_S_)).toInt) sliceFits_S2000x4_S1x4) : (⟨S2000x4, .f32⟩ : BufTy).Contents (Elt F) → (Fin 2 → (⟨S_, .i32⟩ : BufTy).Contents (Elt F)) → (⟨S1x4, .f32⟩ : BufTy).Contents (Elt F)),
    StableHlo.reshape main_while0b_v48 main_while0b_v49 (rfl : (.f32 : EltTy) = .f32) shapeCasts_S1x4_S4 ]
/-- Each touches only references of a TensorCore. -/
theorem body3_sub : (body3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub ..⟩

/-- The score written at the counter's place. -/
abbrev body4 : List (HloOp τ sig (Elt F)) :=
  [ StableHlo.TRef.unary (.of main_while0b_v41 : StableHlo.TRef sig ⟨S_, .f32⟩) (.of main_while0b_call3_v0 : StableHlo.TRef sig ⟨S1, .f32⟩) (broadcastInDim S1 ![] bcast_S_S1),
    StableHlo.TRef.binaryIndexed (.of main_v11_5 : StableHlo.TRef sig ⟨S500, .f32⟩) (.of main_while0b_call3_v0 : StableHlo.TRef sig ⟨S1, .f32⟩) ![(.of main_v11_3 : StableHlo.TRef sig ⟨S_, .i32⟩)] (.of main_while0b_v50 : StableHlo.TRef sig ⟨S500, .f32⟩) (fun x u i => Host.dynamicUpdateSlice x u (fun k => (i k (Shape.Idx.first h_S_)).toInt) updateFits_S500_S1) ]
/-- Each touches only references of a TensorCore. -/
theorem body4_sub : (body4 : List (HloOp τ sig (Elt F))).Forall fun op => op.bufs ⊆ StableHlo.tcRefs τ sig :=
  ⟨StableHlo.unary_bufs_sub .., StableHlo.binaryIndexed_bufs_sub ..⟩

/-- The box written at the counter's place. -/
abbrev body5 : List (HloOp τ sig (Elt F)) :=
  [ StableHlo.TRef.unary (.of main_while0b_v49 : StableHlo.TRef sig ⟨S4, .f32⟩) (.of main_while0b_call4_v0 : StableHlo.TRef sig ⟨S1x4, .f32⟩) (broadcastInDim S1x4 ![1] bcast_S4_S1x4_1),
    StableHlo.TRef.nullary (.of main_while0b_call4_c : StableHlo.TRef sig ⟨S_, .i32⟩) (constantI S_ 32 0#32),
    StableHlo.TRef.binaryIndexed (.of main_v11_6 : StableHlo.TRef sig ⟨S500x4, .f32⟩) (.of main_while0b_call4_v0 : StableHlo.TRef sig ⟨S1x4, .f32⟩) ![(.of main_v11_3 : StableHlo.TRef sig ⟨S_, .i32⟩), (.of main_while0b_call4_c : StableHlo.TRef sig ⟨S_, .i32⟩)] (.of main_while0b_v51 : StableHlo.TRef sig ⟨S500x4, .f32⟩) (fun x u i => Host.dynamicUpdateSlice x u (fun k => (i k (Shape.Idx.first h_S_)).toInt) updateFits_S500x4_S1x4) ]
/-- Each touches only references of a TensorCore. -/
theorem body5_sub : (body5 : List (HloOp τ sig (Elt F))).Forall fun op => op.bufs ⊆ StableHlo.tcRefs τ sig :=
  ⟨StableHlo.unary_bufs_sub .., StableHlo.nullary_bufs_sub .., StableHlo.binaryIndexed_bufs_sub ..⟩

/-- The counter moved on, and the values copied into the carried buffers. -/
abbrev body6 : List (HloOp τ sig (Elt F)) :=
  [ StableHlo.nullary main_while0b_c_32 (constantI S_ 32 1#32),
    StableHlo.binary main_v11_3 main_while0b_c_32 main_while0b_v52 (addi : (⟨S_, .i32⟩ : BufTy).Contents (Elt F) → (⟨S_, .i32⟩ : BufTy).Contents (Elt F) → (⟨S_, .i32⟩ : BufTy).Contents (Elt F)),
    StableHlo.unary main_while0b_v52 main_v11_3 id,
    StableHlo.unary main_while0b_v36 main_v11_4 id,
    StableHlo.unary main_while0b_v50 main_v11_5 id,
    StableHlo.unary main_while0b_v51 main_v11_6 id ]
/-- Each touches only references of a TensorCore. -/
theorem body6_sub : (body6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The scores as a column, beside the boxes. -/
abbrev post0 : List (HloOp τ sig (Elt F)) :=
  [ StableHlo.unary main_v11_5 main_v12 (broadcastInDim S500x1 ![0] bcast_S500_S500x1_0 : (⟨S500, .f32⟩ : BufTy).Contents (Elt F) → (⟨S500x1, .f32⟩ : BufTy).Contents (Elt F)),
    StableHlo.binary main_v11_6 main_v12 main_v13 ((fun a b => concatenate S500x5 1 [⟨S500x4, a⟩, ⟨S500x1, b⟩] concatenates_S500x4_S500x1_S500x5_d1) : (⟨S500x4, .f32⟩ : BufTy).Contents (Elt F) → (⟨S500x1, .f32⟩ : BufTy).Contents (Elt F) → (⟨S500x5, .f32⟩ : BufTy).Contents (Elt F)) ]
/-- Each touches only references of a TensorCore. -/
theorem post0_sub : (post0 : List (HloOp τ sig (Elt F))).Forall fun op => op.bufs ⊆ StableHlo.tcRefs τ sig :=
  ⟨StableHlo.unary_bufs_sub .., StableHlo.binary_bufs_sub ..⟩

/-- The stretches before the loop, of the loop's body, and after the loop. -/
abbrev preI : List (List (HloOp τ sig (Elt F))) := [pre0, pre1, pre2]
/-- The stretches of the loop's body. -/
abbrev bodyI : List (List (HloOp τ sig (Elt F))) := [body0, body1, body2, body3, body4, body5, body6]
/-- The stretch after the loop. -/
abbrev postI : List (List (HloOp τ sig (Elt F))) := [post0]

/-- No stretch allocates a buffer. -/
theorem plain_preI : StableHlo.Plain (preI (F := F)) := (StableHlo.Plain.cons pre0_sub (StableHlo.Plain.cons pre1_sub (StableHlo.Plain.cons pre2_sub StableHlo.Plain.nil)))
/-- No stretch of the body allocates a buffer. -/
theorem plain_bodyI : StableHlo.Plain (bodyI (F := F)) := (StableHlo.Plain.cons body0_sub (StableHlo.Plain.cons body1_sub (StableHlo.Plain.cons body2_sub (StableHlo.Plain.cons body3_sub (StableHlo.Plain.cons body4_sub (StableHlo.Plain.cons body5_sub (StableHlo.Plain.cons body6_sub StableHlo.Plain.nil)))))))
/-- The stretch after the loop allocates no buffer. -/
theorem plain_postI : StableHlo.Plain (postI (F := F)) := (StableHlo.Plain.cons post0_sub StableHlo.Plain.nil)

end Cert.Proof.Reference

end
-- ==== Proof.Reference.Run.lean ====
module

public import proofs.«01_k».proof.Proof.Reference.Ops
public import Idealize.ShloMosaic.Lib.Scf.ExitTest
public import Idealize.ShloMosaic.Lib.Scf.Counter
public import Idealize.ShloMosaic.Lib.StableHlo.RunRead
public import Idealize.ShloMosaic.Lib.Claim

/-! The reference's run: its counted loop takes 500 trips, it ends with its two arguments unchanged, and every buffer holds
    what the lists of operations leave there. -/

@[expose] public section

noncomputable section

namespace Cert.Proof.Reference

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The printed program is the stretches before the loop, the loop, and the stretch after it. -/
theorem main_eq (c : Dev nD) : main (F := F) c
    = Pipeline.chain (((preI (F := F)).map fun ops => (seq ops : Prog _ PUnit)) ++ HostLoop.enter 0 :: (postI (F := F)).map fun ops => (seq ops : Prog _ PUnit)) := by
  show main (F := F) c = Pipeline.chain [seq pre0, seq pre1, seq pre2, HostLoop.enter 0, seq post0]
  rewrite [chain_seq_cons, Pipeline.chain_cons, chain_seq_cons, Pipeline.chain_cons, chain_seq_cons]
  chain_rfl

/-- The loop's body is its stretches in order. -/
theorem body_eq : main_while0_body (F := F) = Pipeline.chain ((bodyI (F := F)).map fun ops => (seq ops : Prog _ PUnit)) := by
  show main_while0_body (F := F) = Pipeline.chain [seq body0, seq body1, seq body2, seq body3, seq body4, seq body5, seq body6]
  rewrite [chain_seq_cons, Pipeline.chain_cons, Pipeline.chain_cons, chain_seq_cons, Pipeline.chain_cons, Pipeline.chain_cons, chain_seq_cons]
  chain_rfl

variable (m : (ℓ : Loc nD τ sig) → Buf (Elt F) ℓ)

/-- The buffers when the loop is entered, and before its condition runs for the `k`-th time. -/
abbrev W0 : Dev nD → Valuation τ sig (Elt F) := entryContents preI m
/-- The values before the step of a given number. -/
abbrev Wk (k : ℕ) (c : Dev nD) : Valuation τ sig (Elt F) := atTrip condOps bodyI (W0 m) k c

/-- The body leaves the counter one further on. -/
theorem ctr_body (V : Valuation τ sig (Elt F)) :
    afterL bodyI V (Proc.devRef .tc main_v11_3) = addi (V (Proc.devRef .tc main_v11_3)) (constantI S_ 32 1#32) := by
  rw [afterL_eq_after_flatten]
  after_reads_simp
  rfl

omit [FloatOps F] in
/-- The condition leaves it. -/
theorem ctr_cond (V : Valuation τ sig (Elt F)) :
    after condOps V (Proc.devRef .tc main_v11_3) = V (Proc.devRef .tc main_v11_3) := by
  after_reads_simp

/-- The counter starts at zero. -/
theorem ctr_entry (c : Dev nD) : W0 m c (Proc.devRef .tc main_v11_3) = fun _ => (0#32 : BitVec 32) := by
  show afterL preI _ _ = _
  rw [afterL_eq_after_flatten]
  after_reads_simp
  rfl

/-- Before the `k`-th condition the counter is `k`. -/
theorem ctr (c : Dev nD) : ∀ k, Wk m k c (Proc.devRef .tc main_v11_3) = fun _ => Scf.iv 0#32 1#32 k
  | 0 => by rw [show Wk m 0 c = W0 m c from rfl, ctr_entry, Scf.iv_zero]
  | k + 1 => by
    rw [show Wk m (k + 1) c = afterL bodyI (after condOps (Wk m k c)) from rfl, ctr_body, ctr_cond, ctr c k, Scf.iv_succ]
    rfl

set_option backward.isDefEq.respectTransparency.types false in
/-- The condition says `go on` exactly at the first 500 trips. -/
theorem cond_spec : CondSpec pcfgs defs₀ loops (main_while0_cond (F := F)) condOps bodyI (W0 m) 500 := by
  intro k hk c bd
  have hctr := ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v11_3 HostLoop.idx0)
        (HloOp.result _ (Wk m k c) main_while0c_c_10 HostLoop.idx0) = 1#1) (k < 500)
    rw [nullary_result_ne _ _ _ _ (by decide), nullary_result, hctr]
    exact Scf.cmpi_slt_iv_ub_iff (lb := 0#32) (ub := 500#32) (st := 1#32) (by decide) (show k ≤ Scf.trips 0#32 500#32 1#32 from hk)
  isplitl [Hb]; · iexact Hb
  rw [after_cons, after_cons, after_nil]; iexact Hh

/-- The buffers at the end. -/
abbrev Wend (c : Dev nD) : Valuation τ sig (Elt F) := finalContents condOps preI bodyI postI 500 m c

/-- No list writes the arguments. -/
theorem arg_kept (r : Ref sig .tc) (hr : r = main_arg0 ∨ r = main_arg1) (c : Dev nD) : Wend m c (Proc.devRef .tc r) = m ((c : Thread nD τ).loc r) := by
  have hpost : ∀ V : Valuation τ sig (Elt F), afterL postI V (Proc.devRef .tc r) = V (Proc.devRef .tc r) := fun V => by
    rw [afterL_eq_after_flatten]; rcases hr with rfl | rfl <;> after_reads_simp
  have hbody : ∀ V : Valuation τ sig (Elt F), afterL bodyI V (Proc.devRef .tc r) = V (Proc.devRef .tc r) := fun V => by
    rw [afterL_eq_after_flatten]; rcases hr with rfl | rfl <;> after_reads_simp
  have hpre : ∀ V : Valuation τ sig (Elt F), afterL preI V (Proc.devRef .tc r) = V (Proc.devRef .tc r) := fun V => by
    rw [afterL_eq_after_flatten]; rcases hr with rfl | rfl <;> after_reads_simp
  have hcond : ∀ V : Valuation τ sig (Elt F), after condOps V (Proc.devRef .tc r) = V (Proc.devRef .tc r) := fun V => by
    rcases hr with rfl | rfl <;> after_reads_simp
  have hk : ∀ k, Wk m k c (Proc.devRef .tc r) = W0 m c (Proc.devRef .tc r) := by
    intro k
    induction k with
    | zero => rfl
    | succ k ih => exact (hbody _).trans ((hcond _).trans ih)
  exact (hpost _).trans ((hcond _).trans ((hk 500).trans (hpre _)))

/-- There is no semaphore. -/
theorem no_sem (g : GSem nD τ sig) : False := by
  rcases g with ⟨_, s | s⟩ <;> exact absurd s.2 (Nat.not_lt_zero _)

set_option maxRecDepth 65536 in
/-- The run: it ends, the result buffer holds what the lists leave there, the arguments are unchanged, and every counter is
    zero. -/
theorem run_value [∀ e, Nonempty (Elt F e)] (ρ : Dev nD → PrngReg) :
    θ_run defs (onTc (τ := τ) (main (F := F))) ⟨m, fun _ => 0, ρ⟩ (fun r =>
      (∀ c : Dev nD, r.2.mem ((c.tc : Thread nD τ).loc main_v13) = Wend m c (Proc.devRef .tc main_v13)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  θ_run_mono (run_loop pcfgs defs₀ loops main 0 main_while0_cond main_while0_body rfl preI bodyI postI condOps
    plain_preI plain_bodyI plain_postI main_eq body_eq 500 m ρ (cond_spec m)) fun r h =>
    ⟨fun c => ⟨h c main_v13 rfl, (h c main_arg0 rfl).trans (arg_kept m main_arg0 (.inl rfl) c), (h c main_arg1 rfl).trans (arg_kept m main_arg1 (.inr rfl) c)⟩,
      funext fun g => (no_sem g).elim⟩

end Cert.Proof.Reference

end
-- ==== Proof.Math.RefStep.lean ====
module

public import proofs.«01_k».proof.Proof.Reference.Run
public import Idealize.ShloMosaic.Lib.Pointwise

/-!
One trip of the reference's loop, as a function of the carried arrays: which box it takes, which boxes it
suppresses, and which row it writes.
-/

@[expose] public section

set_option maxRecDepth 16384

noncomputable section

namespace Cert.Proof.Reference

open Cert.ReferenceIdeal Cert.ReferenceIdeal.Gen
open Idealize.ShloMosaic Idealize.ShloMosaic.TcCoe
open Idealize.ShloMosaic.StableHlo

/-- The scores the trip compares: minus infinity where a box is suppressed. -/
def masked (sup : IVec S2000 1) (vals : FVec Ideal S2000 .f32) : FVec Ideal S2000 .f32 :=
  select sup (broadcastInDim S2000 ![] bcast_S_S2000 (constant (F := Ideal) S_ .f32 0xFF800000#32)) vals

/-- The index word of the box the trip takes. -/
def word (sup : IVec S2000 1) (vals : FVec Ideal S2000 .f32) : IVec S_ 32 := fun j =>
  (Host.argReduce reducer_argmax_f32_i32 (masked sup vals) (iotaInDim S2000 32 0)
    (constant (F := Ideal) S_ .f32 0xFF800000#32) (constantI S_ 32 0#32) reducesTo_S2000_S_d0 h_S_ j).2

/-- That word with a negative value counted from the end. -/
def wrapped (w : IVec S_ 32) : IVec S_ 32 :=
  select (cmpi .slt w (constantI S_ 32 0#32)) (addi w (constantI S_ 32 2000#32)) w

/-- The centre of the box at start `st`, in every row. -/
def centre (cen : FVec Ideal S2000x2 .f32) (st : Fin 2 → Int) : FVec Ideal S2000x2 .f32 :=
  broadcastInDim S2000x2 ![0, 1] bcast_S1x2_S2000x2_0_1 (broadcastInDim S1x2 ![1] bcast_S2_S1x2_1
    (shapeCast S2 (Host.dynamicSlice S1x2 cen st sliceFits_S2000x2_S1x2) shapeCasts_S1x2_S2))

/-- The suppressed boxes after a trip that takes the box at start `st` and index word `w`. -/
def supNext (cen : FVec Ideal S2000x2 .f32) (sup : IVec S2000 1) (st : Fin 2 → Int) (w : IVec S_ 32) : IVec S2000 1 :=
  Host.scatter scatter_S2000_S1_S__n_0_0_0 (fun _ b => b)
    (ori sup (cmpf .olt (Host.reduceAdd (mulf (subf cen (centre cen st)) (subf cen (centre cen st)))
      (constant S_ .f32 0#32) reducesTo_S2000x2_S2000_d1 h_S_)
      (broadcastInDim S2000 ![] bcast_S_S2000 (constant S_ .f32 1065353216#32))))
    (broadcastInDim S1 ![] bcast_S_S1 w) (constantI S_ 1 1#1)

/-- The kept scores after a trip that writes at `at'` the score at start `st`. -/
def scoresNext (out : FVec Ideal S500 .f32) (vals : FVec Ideal S2000 .f32) (at' st : Fin 1 → Int) : FVec Ideal S500 .f32 :=
  Host.dynamicUpdateSlice out
    (broadcastInDim S1 ![] bcast_S_S1 (shapeCast S_ (Host.dynamicSlice S1 vals st sliceFits_S2000_S1) shapeCasts_S1_S_))
    at' updateFits_S500_S1

/-- The kept boxes after a trip that writes at `at'` the box at start `st`. -/
def boxesNext (out : FVec Ideal S500x4 .f32) (box : FVec Ideal S2000x4 .f32) (at' st : Fin 2 → Int) : FVec Ideal S500x4 .f32 :=
  Host.dynamicUpdateSlice out
    (broadcastInDim S1x4 ![1] bcast_S4_S1x4_1 (shapeCast S4 (Host.dynamicSlice S1x4 box st sliceFits_S2000x4_S1x4) shapeCasts_S1x4_S4))
    at' updateFits_S500x4_S1x4

/-- The word the trip reads off the carried arrays. -/
def wordOf (V : Valuation τ sig (Elt Ideal)) : IVec S_ 32 :=
  word (V (Proc.devRef .tc main_v11_4)) (V (Proc.devRef .tc main_v11_0))

/-- The start of the taken box, signed. -/
def startOf (V : Valuation τ sig (Elt Ideal)) : Int := (wrapped (wordOf V) (Shape.Idx.first h_S_)).toInt

/-- The loop's counter, signed. -/
def counterOf (V : Valuation τ sig (Elt Ideal)) : Int :=
  ((V (Proc.devRef .tc main_v11_3) : IVec S_ 32) (Shape.Idx.first h_S_)).toInt

/-- A word is read through an equality of its type. -/
private theorem word_of_heq {A : Type} (h : A = IVec S_ 32) {a : A} {x : IVec S_ 32} (hx : HEq a x) (i : S_.Idx) :
    (cast h a i).toInt = (x i).toInt := by
  subst h
  cases hx
  rfl

/-- The starts of an update of a matrix depend on the two scalars that name them alone. -/
private theorem starts2 (U : Valuation τ sig (Elt Ideal)) (b : Fin 2 → Ref sig .tc)
    (h : ∀ k, ((Proc.devRef .tc (b k)).ty.Contents (Elt Ideal)) = IVec S_ 32) {x y : IVec S_ 32}
    (hx : HEq (U (Proc.devRef .tc (b 0))) x) (hy : HEq (U (Proc.devRef .tc (b 1))) y) :
    (fun k => (cast (h k) (U (Proc.devRef .tc (b k))) (Shape.Idx.first h_S_)).toInt)
      = ![(x (Shape.Idx.first h_S_)).toInt, (y (Shape.Idx.first h_S_)).toInt] := by
  funext k
  match k with
  | ⟨0, _⟩ => exact word_of_heq (h 0) hx _
  | ⟨1, _⟩ => exact word_of_heq (h 1) hy _

/-- The start of an update of a vector depends on the scalar that names it alone. -/
private theorem starts1 (U : Valuation τ sig (Elt Ideal)) (b : Fin 1 → Ref sig .tc)
    (h : ∀ k, ((Proc.devRef .tc (b k)).ty.Contents (Elt Ideal)) = IVec S_ 32) {x : IVec S_ 32}
    (hx : HEq (U (Proc.devRef .tc (b 0))) x) :
    (fun k => (cast (h k) (U (Proc.devRef .tc (b k))) (Shape.Idx.first h_S_)).toInt)
      = ![(x (Shape.Idx.first h_S_)).toInt] := by
  funext k
  match k with
  | ⟨0, _⟩ => exact word_of_heq (h 0) hx _

/-- What `v18` holds when the update that uses it runs. -/
private theorem upto_v18 (V : Valuation τ sig (Elt Ideal)) :
    upto bodyI.flatten V 22 (Proc.devRef .tc main_while0b_v18) = wrapped (wordOf V) := by
  after_reads_simp
  rfl

/-- What `v21` holds when the update that uses it runs. -/
private theorem upto_v21 (V : Valuation τ sig (Elt Ideal)) :
    upto bodyI.flatten V 22 (Proc.devRef .tc main_while0b_v21) = constantI S_ 32 0#32 := by
  after_reads_simp
  rfl

/-- What `v39` holds when the update that uses it runs. -/
private theorem upto_v39 (V : Valuation τ sig (Elt Ideal)) :
    upto bodyI.flatten V 47 (Proc.devRef .tc main_while0b_v39) = wrapped (wordOf V) := by
  after_reads_simp
  rfl

/-- What `n` holds when the update that uses it runs. -/
private theorem upto_n (V : Valuation τ sig (Elt Ideal)) :
    upto bodyI.flatten V 65 (Proc.devRef .tc main_v11_3) = V (Proc.devRef .tc main_v11_3) := by
  after_reads_simp

/-- What `v44` holds when the update that uses it runs. -/
private theorem upto_v44 (V : Valuation τ sig (Elt Ideal)) :
    upto bodyI.flatten V 62 (Proc.devRef .tc main_while0b_v44) = wrapped (wordOf V) := by
  after_reads_simp
  rfl

/-- What `v47` holds when the update that uses it runs. -/
private theorem upto_v47 (V : Valuation τ sig (Elt Ideal)) :
    upto bodyI.flatten V 62 (Proc.devRef .tc main_while0b_v47) = constantI S_ 32 0#32 := by
  after_reads_simp
  rfl

/-- What `n2` holds when the update that uses it runs. -/
private theorem upto_n2 (V : Valuation τ sig (Elt Ideal)) :
    upto bodyI.flatten V 68 (Proc.devRef .tc main_v11_3) = V (Proc.devRef .tc main_v11_3) := by
  after_reads_simp

/-- What `c4` holds when the update that uses it runs. -/
private theorem upto_c4 (V : Valuation τ sig (Elt Ideal)) :
    upto bodyI.flatten V 68 (Proc.devRef .tc main_while0b_call4_c) = constantI S_ 32 0#32 := by
  after_reads_simp
  rfl

/-- The suppressed boxes the trip leaves. -/
theorem body_sup (V : Valuation τ sig (Elt Ideal)) :
    afterL bodyI V (Proc.devRef .tc main_v11_4)
      = supNext (V (Proc.devRef .tc main_v11_1)) (V (Proc.devRef .tc main_v11_4)) ![startOf V, 0] (wrapped (wordOf V)) := by
  rw [afterL_eq_after_flatten]
  after_reads_simp
  refine (congrArg₂ (supNext (V (Proc.devRef .tc main_v11_1)) (V (Proc.devRef .tc main_v11_4))) (starts2 (upto bodyI.flatten V 22) ![main_while0b_v18, main_while0b_v21] (fun _ => _) (heq_of_eq (upto_v18 V)) (heq_of_eq (upto_v21 V))) rfl :
    supNext _ _ _ _ = _)

/-- The kept scores the trip leaves. -/
theorem body_scores (V : Valuation τ sig (Elt Ideal)) :
    afterL bodyI V (Proc.devRef .tc main_v11_5)
      = scoresNext (V (Proc.devRef .tc main_v11_5)) (V (Proc.devRef .tc main_v11_0)) ![counterOf V] ![startOf V] := by
  rw [afterL_eq_after_flatten]
  after_reads_simp
  refine (congrArg₂ (scoresNext (V (Proc.devRef .tc main_v11_5)) (V (Proc.devRef .tc main_v11_0))) (starts1 (upto bodyI.flatten V 65) (fun k => ((![(.of main_v11_3 : TRef sig ⟨S_, .i32⟩)] : Fin 1 → TRef sig ⟨S_, .i32⟩) k).ref) (fun _ => _) (heq_of_eq (upto_n V)))
    (starts1 (upto bodyI.flatten V 47) ![main_while0b_v39] (fun _ => _) (heq_of_eq (upto_v39 V))) : scoresNext _ _ _ _ = _)

/-- The kept boxes the trip leaves. -/
theorem body_boxes (V : Valuation τ sig (Elt Ideal)) :
    afterL bodyI V (Proc.devRef .tc main_v11_6)
      = boxesNext (V (Proc.devRef .tc main_v11_6)) (V (Proc.devRef .tc main_v11_2)) ![counterOf V, 0] ![startOf V, 0] := by
  rw [afterL_eq_after_flatten]
  after_reads_simp
  refine (congrArg₂ (boxesNext (V (Proc.devRef .tc main_v11_6)) (V (Proc.devRef .tc main_v11_2))) (starts2 (upto bodyI.flatten V 68)
      (fun k => ((![(.of main_v11_3 : TRef sig ⟨S_, .i32⟩), (.of main_while0b_call4_c : TRef sig ⟨S_, .i32⟩)] : Fin 2 → TRef sig ⟨S_, .i32⟩) k).ref) (fun _ => _) (heq_of_eq (upto_n2 V)) (heq_of_eq (upto_c4 V)))
    (starts2 (upto bodyI.flatten V 62) ![main_while0b_v44, main_while0b_v47] (fun _ => _) (heq_of_eq (upto_v44 V)) (heq_of_eq (upto_v47 V))) : boxesNext _ _ _ _ = _)

/-- The trip keeps the sorted scores. -/
theorem body_kept0 (V : Valuation τ sig (Elt Ideal)) :
    afterL bodyI V (Proc.devRef .tc main_v11_0) = V (Proc.devRef .tc main_v11_0) := by
  rw [afterL_eq_after_flatten]
  after_reads_simp

/-- The trip keeps the centres. -/
theorem body_kept1 (V : Valuation τ sig (Elt Ideal)) :
    afterL bodyI V (Proc.devRef .tc main_v11_1) = V (Proc.devRef .tc main_v11_1) := by
  rw [afterL_eq_after_flatten]
  after_reads_simp

/-- The trip keeps the boxes. -/
theorem body_kept2 (V : Valuation τ sig (Elt Ideal)) :
    afterL bodyI V (Proc.devRef .tc main_v11_2) = V (Proc.devRef .tc main_v11_2) := by
  rw [afterL_eq_after_flatten]
  after_reads_simp

/-- The loop's test changes none of the carried arrays. -/
theorem cond_kept (V : Valuation τ sig (Elt Ideal)) :
    after condOps V (Proc.devRef .tc main_v11_0) = V (Proc.devRef .tc main_v11_0)
    ∧ after condOps V (Proc.devRef .tc main_v11_1) = V (Proc.devRef .tc main_v11_1)
    ∧ after condOps V (Proc.devRef .tc main_v11_2) = V (Proc.devRef .tc main_v11_2)
    ∧ after condOps V (Proc.devRef .tc main_v11_3) = V (Proc.devRef .tc main_v11_3)
    ∧ after condOps V (Proc.devRef .tc main_v11_4) = V (Proc.devRef .tc main_v11_4)
    ∧ after condOps V (Proc.devRef .tc main_v11_5) = V (Proc.devRef .tc main_v11_5)
    ∧ after condOps V (Proc.devRef .tc main_v11_6) = V (Proc.devRef .tc main_v11_6) := by
  refine ⟨?_, ?_, ?_, ?_, ?_, ?_, ?_⟩ <;> after_reads_simp

/-- The result, from the kept boxes and scores. -/
theorem post_result (V : Valuation τ sig (Elt Ideal)) :
    afterL postI V (Proc.devRef .tc main_v13)
      = concatenate S500x5 1 [⟨S500x4, V (Proc.devRef .tc main_v11_6)⟩,
          ⟨S500x1, broadcastInDim S500x1 ![0] bcast_S500_S500x1_0 (V (Proc.devRef .tc main_v11_5))⟩]
          concatenates_S500x4_S500x1_S500x5_d1 := by
  rw [afterL_eq_after_flatten]
  after_reads_simp
  refine congrArg₂ (fun a b => concatenate S500x5 1 [⟨S500x4, a⟩, ⟨S500x1, b⟩] concatenates_S500x4_S500x1_S500x5_d1) ?_ ?_ <;>
    after_reads_simp

end Cert.Proof.Reference
-- ==== Proof.Math.Ind.lean ====
module

public import Idealize.ShloMosaic.Lib.Pointwise
public import Idealize.ShloMosaic.Lib.IdealHost
public import Mathlib.Data.Nat.Count

/-! Zero-one values over the extended reals: the indicator of a proposition, and what products, complements, maxima and
    sums of indicators are. -/

@[expose] public section

noncomputable section

open Classical

open Idealize.ShloMosaic

namespace Cert.Proof.Ind

/-- One where `p` holds and zero elsewhere. -/
def ind (p : Prop) : EReal := if p then 1 else 0

/-- The indicator of a true statement is one. -/
theorem ind_true {p : Prop} (h : p) : ind p = 1 := if_pos h
/-- The indicator of a false statement is zero. -/
theorem ind_false {p : Prop} (h : ¬ p) : ind p = 0 := if_neg h

/-- Indicators are equal exactly when the propositions are equivalent. -/
theorem ind_inj {p q : Prop} : ind p = ind q ↔ (p ↔ q) := by
  by_cases hp : p <;> by_cases hq : q <;> simp [ind, hp, hq]

/-- Equivalent statements have equal indicators. -/
theorem ind_congr {p q : Prop} (h : p ↔ q) : ind p = ind q := ind_inj.2 h

/-- Indicators are not negative. -/
theorem ind_nonneg (p : Prop) : 0 ≤ ind p := by
  by_cases h : p <;> simp [ind, h]

/-- An implication bounds one indicator by the other. -/
theorem ind_le_ind {p q : Prop} (h : p → q) : ind p ≤ ind q := by
  by_cases hp : p
  · rw [ind_true hp, ind_true (h hp)]
  · rw [ind_false hp]; exact ind_nonneg q

/-- A product of indicators. -/
theorem ind_mul (p q : Prop) : ind p * ind q = ind (p ∧ q) := by
  by_cases hp : p <;> by_cases hq : q <;> simp [ind, hp, hq]

/-- The complement of an indicator. -/
theorem one_sub_ind (p : Prop) : 1 - ind p = ind (¬ p) := by
  by_cases hp : p
  · rw [ind_true hp, ind_false (not_not.2 hp), ← EReal.coe_one, ← EReal.coe_sub, sub_self, EReal.coe_zero]
  · rw [ind_false hp, ind_true hp, sub_zero]

/-- The larger of two indicators. -/
theorem max_ind (p q : Prop) : max (ind p) (ind q) = ind (p ∨ q) := by
  by_cases hp : p <;> by_cases hq : q <;> simp [ind, hp, hq]

/-- The pattern of minus infinity. -/
theorem ofBits_neg_inf : Ideal.ofBits .f32 0xFF800000#32 = ⊥ := by simp [Ideal.ofBits, Ideal.ieee]

/-- The maximum of finitely many indicators, from minus infinity. -/
theorem fold_max_ind {ι : Type} [Fintype ι] [Nonempty ι] (p : ι → Prop) :
    Finset.univ.fold max (Ideal.ofBits .f32 0xFF800000#32) (fun k => ind (p k)) = ind (∃ k, p k) := by
  refine le_antisymm ?_ ?_
  · rw [Finset.fold_max_le, ofBits_neg_inf]
    exact ⟨bot_le, fun k _ => ind_le_ind fun h => ⟨k, h⟩⟩
  · rw [Finset.le_fold_max]
    right
    by_cases h : ∃ k, p k
    · obtain ⟨k, hk⟩ := h
      exact ⟨k, Finset.mem_univ k, by rw [ind_true hk, ind_true ⟨k, hk⟩]⟩
    · exact ⟨Classical.arbitrary ι, Finset.mem_univ _, by rw [ind_false h]; exact ind_nonneg _⟩

/-- The sum of the indicators of a predicate counts it. -/
theorem sum_ind (p : ℕ → Prop) (n : ℕ) : ∑ k : Fin n, ind (p k) = ((Nat.count p n : ℕ) : EReal) := by
  induction n with
  | zero => simp
  | succ n ih =>
    rw [Fin.sum_univ_castSucc, Nat.count_succ]
    simp only [Fin.val_castSucc, Fin.val_last]
    rw [ih]
    by_cases h : p n
    · rw [ind_true h, if_pos h]; push_cast; rfl
    · rw [ind_false h, if_neg h]; simp

/-- The sum of the indicators of a predicate below `m ≤ n` counts it up to `m`. -/
theorem sum_ind_lt (p : ℕ → Prop) {m n : ℕ} (h : m ≤ n) : ∑ k : Fin n, ind (p k) * ind ((k : ℕ) < m) = ((Nat.count p m : ℕ) : EReal) := by
  have : ∀ k : Fin n, ind (p k) * ind ((k : ℕ) < m) = ind (p k ∧ (k : ℕ) < m) := fun k => ind_mul _ _
  simp only [this]
  rw [sum_ind (fun k => p k ∧ k < m)]
  congr 1
  rw [Nat.count_eq_card_filter_range, Nat.count_eq_card_filter_range]
  congr 1
  ext k
  simp only [Finset.mem_filter, Finset.mem_range]
  exact ⟨fun hk => ⟨hk.2.2, hk.2.1⟩, fun hk => ⟨by omega, hk.2, hk.1⟩⟩

/-- A sum weighted by the indicator of one place reads that place. -/
theorem sum_ind_mul {n : ℕ} (p : Fin n → Prop) (x : Fin n → EReal) (j : Fin n) (h : ∀ k, p k ↔ k = j) :
    ∑ k, ind (p k) * x k = x j := by
  rw [Finset.sum_eq_single j]
  · rw [ind_true ((h j).2 rfl), one_mul]
  · intro k _ hk
    rw [ind_false fun hp => hk ((h k).1 hp), zero_mul]
  · exact fun hj => absurd (Finset.mem_univ j) hj

/-- A sum weighted by the indicator of no place is zero. -/
theorem sum_ind_none {n : ℕ} (p : Fin n → Prop) (x : Fin n → EReal) (h : ∀ k, ¬ p k) : ∑ k, ind (p k) * x k = 0 :=
  Finset.sum_eq_zero fun k _ => by rw [ind_false (h k), zero_mul]

/-- A one-bit word that is the truth value of `p`, widened and converted, is the indicator. -/
theorem sitofp_bit (b : Bool) : (FloatOps.sitofp .f32 (BitVec.setWidth 32 (BitVec.ofBool b)) : Ideal .f32) = ind (b = true) := by
  cases b
  · show ((((0#32 : BitVec 32).toInt : ℤ) : ℝ) : EReal) = _
    simp [ind]
  · show ((((1#32 : BitVec 32).toInt : ℤ) : ℝ) : EReal) = _
    simp [ind]

/-- The bit of a statement, turned into a number, is its indicator. -/
theorem sitofp_decide (p : Prop) [Decidable p] :
    (FloatOps.sitofp .f32 (BitVec.setWidth 32 (BitVec.ofBool (decide p))) : Ideal .f32) = ind p :=
  (sitofp_bit _).trans (ind_congr decide_eq_true_iff)

/-- A small index word read signed. -/
theorem toInt_word {a : ℕ} (ha : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

/-- The signed comparison of two small index words, widened and converted. -/
theorem sitofp_slt {a b : ℕ} (ha : a < 2 ^ 31) (hb : b < 2 ^ 31) :
    (FloatOps.sitofp .f32 (BitVec.setWidth 32 (IntOp.cmpi CmpIPredicate.slt (BitVec.ofNat 32 a) (BitVec.ofNat 32 b))) : Ideal .f32)
      = ind (a < b) := by
  have : IntOp.cmpi CmpIPredicate.slt (BitVec.ofNat 32 a) (BitVec.ofNat 32 b) = BitVec.ofBool (decide (a < b)) := by
    show BitVec.ofBool ((BitVec.ofNat 32 a).slt (BitVec.ofNat 32 b)) = _
    congr 1
    rw [BitVec.slt_eq_decide, toInt_word ha, toInt_word hb]
    simp
  rw [this, sitofp_decide]

/-- A small index word converted is the number. -/
theorem sitofp_nat {a : ℕ} (ha : a < 2 ^ 31) : (FloatOps.sitofp .f32 (BitVec.ofNat 32 a) : Ideal .f32) = ((a : ℕ) : EReal) := by
  show ((((BitVec.ofNat 32 a).toInt : ℤ) : ℝ) : EReal) = _
  rw [toInt_word ha]
  simp

/-- The larger than zero comparison of an indicator. -/
theorem ind_pos_iff (p : Prop) : 0 < ind p ↔ p := by
  by_cases h : p <;> simp [ind, h]

/-- The pattern of one half. -/
theorem half_bounds : (0 : EReal) ≤ Ideal.ofBits .f32 1056964608#32 ∧ Ideal.ofBits .f32 1056964608#32 < (1 : EReal) := by
  have : Ideal.ofBits .f32 1056964608#32 = (((1 : ℝ) / 2 : ℝ) : EReal) := by
    simp [Ideal.ofBits, Ideal.ieee, -EReal.coe_mul]
    norm_num
  rw [this]
  constructor
  · rw [← EReal.coe_zero, EReal.coe_le_coe_iff]; norm_num
  · rw [← EReal.coe_one, EReal.coe_lt_coe_iff]; norm_num

/-- An indicator is above one half exactly when the proposition holds. -/
theorem half_lt_ind (p : Prop) : Ideal.ofBits .f32 1056964608#32 < ind p ↔ p := by
  by_cases h : p
  · rw [ind_true h]; exact ⟨fun _ => h, fun _ => half_bounds.2⟩
  · rw [ind_false h]; exact ⟨fun hlt => absurd hlt (not_lt.2 half_bounds.1), fun hp => absurd hp h⟩

end Cert.Proof.Ind

end
-- ==== Proof.Math.Greedy.lean ====
module

public import Idealize.ShloMosaic.Lib.Pointwise
public import Mathlib.Data.Nat.Count

/-! Greedy suppression on the candidates `0, …, N-1`, as mathematics: a candidate is kept when no earlier kept one is close
    to it. The `r`-th pick is the kept candidate with `r` kept ones before it, or candidate 0 when there is none. The
    module proves that two ways to compute the picks agree with this: one candidate at a time (the first not yet
    suppressed), and block by block with an early stop. -/

@[expose] public section

noncomputable section

open Classical

namespace Cert.Proof.Greedy

/-- Candidate `j` is kept: it is one of the `N`, and no earlier kept one is close to it. -/
def Kept (C : ℕ → ℕ → Prop) (N j : ℕ) : Prop := j < N ∧ ∀ i, (h : i < j) → Kept C N i → ¬ C i j
termination_by j

/-- How many are kept before `j`. -/
abbrev before (C : ℕ → ℕ → Prop) (N j : ℕ) : ℕ := Nat.count (Kept C N) j

/-- `j` is the `r`-th kept candidate. -/
def IsPick (C : ℕ → ℕ → Prop) (N r j : ℕ) : Prop := Kept C N j ∧ before C N j = r

/-- The `r`-th pick: the `r`-th kept candidate, or candidate 0. -/
def pick (C : ℕ → ℕ → Prop) (N r : ℕ) : ℕ := if h : ∃ j, IsPick C N r j then h.choose else 0

variable {C : ℕ → ℕ → Prop} {N : ℕ}

/-- A candidate is kept exactly when it is in range and no earlier kept candidate conflicts with it. -/
theorem kept_iff (j : ℕ) : Kept C N j ↔ j < N ∧ ∀ i, i < j → Kept C N i → ¬ C i j := by
  rw [Kept]

/-- There is at most one pick of each rank. -/
theorem isPick_unique {r i j : ℕ} (hi : IsPick C N r i) (hj : IsPick C N r j) : i = j :=
  Nat.count_injective hi.1 hj.1 (hi.2.trans hj.2.symm)

/-- The pick of a rank is the candidate that has this rank. -/
theorem pick_eq {r j : ℕ} (h : IsPick C N r j) : pick C N r = j := by
  have hex : ∃ j, IsPick C N r j := ⟨j, h⟩
  rw [pick, dif_pos hex]
  exact isPick_unique hex.choose_spec h

/-- Without a candidate of this rank the pick is the first candidate. -/
theorem pick_none {r : ℕ} (h : ¬ ∃ j, IsPick C N r j) : pick C N r = 0 := dif_neg h

/-- Candidate 0 is kept. -/
theorem kept_zero (hN : 0 < N) : Kept C N 0 := (kept_iff 0).2 ⟨hN, fun i hi => absurd hi (Nat.not_lt_zero _)⟩

/-- The first candidate is the pick of rank zero. -/
theorem pick_zero (hN : 0 < N) : IsPick C N 0 0 := ⟨kept_zero hN, Nat.count_zero _⟩

/-- Every pick is in range. -/
theorem pick_lt (hN : 0 < N) (r : ℕ) : pick C N r < N := by
  by_cases h : ∃ j, IsPick C N r j
  · obtain ⟨j, hj⟩ := h
    rw [pick_eq hj]
    exact ((kept_iff j).1 hj.1).1
  · rw [pick_none h]; exact hN

/-- Where a predicate holds with more than `r` before it, it holds somewhere with exactly `r` before it. -/
theorem exists_count_eq {p : ℕ → Prop} {r j : ℕ} (h : r < Nat.count p j) : ∃ i < j, p i ∧ Nat.count p i = r := by
  induction j with
  | zero => rw [Nat.count_zero] at h; exact absurd h (Nat.not_lt_zero _)
  | succ j ih =>
    rw [Nat.count_succ] at h
    by_cases hr : r < Nat.count p j
    · obtain ⟨i, hi, h'⟩ := ih hr
      exact ⟨i, Nat.lt_succ_of_lt hi, h'⟩
    · by_cases hp : p j
      · rw [if_pos hp] at h
        exact ⟨j, Nat.lt_succ_self j, hp, by omega⟩
      · rw [if_neg hp] at h; exact absurd h hr

/-! ## One candidate at a time -/

section OneAtATime

variable {S : ℕ → ℕ → Prop} {idx : ℕ → ℕ}

/-- Suppose step `t` takes the first candidate not suppressed (candidate 0 when all are), and suppresses it and what is
    close to it. Then after `t` steps the suppressed ones are the first `t` kept ones and those close to one of them. -/
theorem suppressed_iff (hN : 0 < N) (hS0 : ∀ j < N, ¬ S 0 j)
    (hSs : ∀ t, ∀ j < N, S (t + 1) j ↔ S t j ∨ C (idx t) j ∨ j = idx t)
    (hsome : ∀ t, (∃ j < N, ¬ S t j) → idx t < N ∧ ¬ S t (idx t) ∧ ∀ j < idx t, S t j)
    (hnone : ∀ t, (∀ j < N, S t j) → idx t = 0) (t : ℕ) :
    (∀ j < N, S t j ↔ ∃ i, Kept C N i ∧ before C N i < t ∧ (i = j ∨ C i j)) ∧ idx t = pick C N t := by
  have hidx : ∀ t, (∀ j < N, S t j ↔ ∃ i, Kept C N i ∧ before C N i < t ∧ (i = j ∨ C i j)) →
      (∃ j, IsPick C N t j) ∧ IsPick C N t (idx t) ∨ (¬ ∃ j, IsPick C N t j) ∧ idx t = 0 := by
    intro t ht
    by_cases hex : ∃ j, IsPick C N t j
    · refine .inl ⟨hex, ?_⟩
      obtain ⟨j, hj⟩ := hex
      have hjN := ((kept_iff j).1 hj.1).1
      have hjS : ¬ S t j := by
        rw [ht j hjN]
        rintro ⟨i, hi, hc, hij | hij⟩
        · subst hij; rw [hj.2] at hc; exact lt_irrefl _ hc
        · have hlt : i < j := by
            by_contra hge
            have := Nat.count_monotone (Kept C N) (not_lt.1 hge)
            have h2 := hj.2
            simp only [before] at hc h2
            omega
          exact ((kept_iff j).1 hj.1).2 i hlt hi hij
      obtain ⟨h1, h2, h3⟩ := hsome t ⟨j, hjN, hjS⟩
      have hall : ∀ i < j, S t i := by
        intro i hi
        rw [ht i (hi.trans hjN)]
        by_cases hk : Kept C N i
        · refine ⟨i, hk, ?_, .inl rfl⟩
          have := Nat.count_strict_mono hk hi
          have h2 := hj.2
          simp only [before] at h2 ⊢
          omega
        · rw [kept_iff] at hk
          push Not at hk
          obtain ⟨i', hi', hk', hc⟩ := hk (hi.trans hjN)
          refine ⟨i', hk', ?_, .inr hc⟩
          have := Nat.count_strict_mono hk' (hi'.trans hi)
          have h2 := hj.2
          simp only [before] at h2 ⊢
          omega
      have : idx t = j := by
        rcases lt_trichotomy (idx t) j with h | h | h
        · exact absurd (hall _ h) h2
        · exact h
        · exact absurd (h3 _ h) hjS
      rw [this]; exact hj
    · refine .inr ⟨hex, hnone t fun j hj => ?_⟩
      have hcount : ∀ i, Kept C N i → before C N i < t := by
        intro i hi
        by_contra hge
        rcases Nat.lt_or_eq_of_le (not_lt.1 hge) with h | h
        · obtain ⟨i', _, hk, hc⟩ := exists_count_eq h
          exact hex ⟨i', hk, hc⟩
        · exact hex ⟨i, hi, h.symm⟩
      rw [ht j hj]
      by_cases hk : Kept C N j
      · exact ⟨j, hk, hcount j hk, .inl rfl⟩
      · rw [kept_iff] at hk
        push Not at hk
        obtain ⟨i, hi, hk', hc⟩ := hk hj
        exact ⟨i, hk', hcount i hk', .inr hc⟩
  have hS : ∀ t, ∀ j < N, S t j ↔ ∃ i, Kept C N i ∧ before C N i < t ∧ (i = j ∨ C i j) := by
    intro t
    induction t with
    | zero => exact fun j hj => ⟨fun h => absurd h (hS0 j hj), fun ⟨_, _, h, _⟩ => absurd h (Nat.not_lt_zero _)⟩
    | succ t ih =>
      intro j hj
      rw [hSs t j hj, ih j hj]
      rcases hidx t ih with ⟨_, hp⟩ | ⟨hno, h0⟩
      · constructor
        · rintro (⟨i, hi, hc, h⟩ | h | h)
          · exact ⟨i, hi, by omega, h⟩
          · exact ⟨idx t, hp.1, by rw [hp.2]; omega, .inr h⟩
          · exact ⟨idx t, hp.1, by rw [hp.2]; omega, .inl h.symm⟩
        · rintro ⟨i, hi, hc, h⟩
          by_cases hlt : before C N i < t
          · exact .inl ⟨i, hi, hlt, h⟩
          · have : i = idx t := isPick_unique ⟨hi, by omega⟩ hp
            subst this
            rcases h with h | h
            · exact .inr (.inr h.symm)
            · exact .inr (.inl h)
      · have ht : 0 < t := by
          rcases Nat.eq_zero_or_pos t with h | h
          · subst h; exact absurd ⟨0, pick_zero hN⟩ hno
          · exact h
        have hb0 : before C N 0 < t := by rw [before, Nat.count_zero]; exact ht
        rw [h0]
        constructor
        · rintro (⟨i, hi, hc, h⟩ | h | h)
          · exact ⟨i, hi, by omega, h⟩
          · exact ⟨0, kept_zero hN, by omega, .inr h⟩
          · exact ⟨0, kept_zero hN, by omega, .inl h.symm⟩
        · rintro ⟨i, hi, hc, h⟩
          by_cases hlt : before C N i < t
          · exact .inl ⟨i, hi, hlt, h⟩
          · exact absurd ⟨i, hi, by omega⟩ hno
  refine ⟨hS t, ?_⟩
  rcases hidx t (hS t) with ⟨_, hp⟩ | ⟨hno, h0⟩
  · exact (pick_eq hp).symm
  · rw [h0, pick_none hno]

end OneAtATime

/-! ## Block by block -/

section Blocks

variable {B M : ℕ}

/-- Within one block: what is suppressed by the earlier blocks (`e`) or by an earlier kept candidate of the block. There is
    one solution of this recursion. -/
theorem block_unique {D : ℕ → ℕ → Prop} {e f g : ℕ → Prop}
    (hf : ∀ j < B, f j ↔ e j ∨ ∃ i < j, D i j ∧ ¬ f i) (hg : ∀ j < B, g j ↔ e j ∨ ∃ i < j, D i j ∧ ¬ g i) :
    ∀ j < B, f j ↔ g j := by
  intro j
  induction j using Nat.strong_induction_on with
  | _ j ih =>
    intro hj
    rw [hf j hj, hg j hj]
    refine or_congr Iff.rfl (exists_congr fun i => and_congr_right fun hi => and_congr Iff.rfl (not_congr (ih i hi (hi.trans hj))))

/-- The state after `k` blocks: the first `b` were processed, all `k` unless at least `M` are kept; the kept ones are right
    on these, nothing is kept elsewhere; suppressed is what lies past `N` or is close to a kept one of these. -/
structure After (C : ℕ → ℕ → Prop) (N B M L : ℕ) (k : ℕ) (sup keep : ℕ → Prop) : Prop where
  ex : ∃ b ≤ k, (b < k → M ≤ Nat.count keep L) ∧ (∀ j < L, keep j ↔ Kept C N j ∧ j < B * b)
    ∧ ∀ j < L, sup j ↔ N ≤ j ∨ ∃ i < B * b, Kept C N i ∧ C i j

variable {L : ℕ}

/-- Before the first block only the padding is marked and nothing is kept. -/
theorem After.zero {sup keep : ℕ → Prop} (hs : ∀ j < L, sup j ↔ N ≤ j) (hk : ∀ j < L, ¬ keep j) : After C N B M L 0 sup keep :=
  ⟨⟨0, le_rfl, fun h => absurd h (lt_irrefl _), fun j hj => ⟨fun h => absurd h (hk j hj), fun h => absurd h.2 (by omega)⟩,
    fun j hj => (hs j hj).trans ⟨.inl, fun h => h.elim id fun ⟨i, hi, _⟩ => absurd hi (by omega)⟩⟩⟩

/-- A skipped block: at least `M` are kept already. -/
theorem After.skip {k : ℕ} {sup keep : ℕ → Prop} (h : After C N B M L k sup keep) (hM : M ≤ Nat.count keep L) :
    After C N B M L (k + 1) sup keep := by
  obtain ⟨b, hb, _, h2⟩ := h.ex
  exact ⟨⟨b, hb.trans (Nat.le_succ k), fun _ => hM, h2⟩⟩

/-- A processed block: fewer than `M` are kept so far, `f` is the suppression within the block, and the new state takes the
    block's unsuppressed ones as kept and suppresses what is close to them. -/
theorem After.step {k : ℕ} {sup keep sup' keep' f : ℕ → Prop} (h : After C N B M L k sup keep)
    (hM : Nat.count keep L < M) (hL : B * (k + 1) ≤ L)
    (hf : ∀ j < B, f j ↔ sup (B * k + j) ∨ ∃ i < j, C (B * k + i) (B * k + j) ∧ ¬ f i)
    (hk' : ∀ j < L, keep' j ↔ if B * k ≤ j ∧ j < B * (k + 1) then ¬ f (j - B * k) else keep j)
    (hs' : ∀ j < L, sup' j ↔ sup j ∨ ∃ i < B, ¬ f i ∧ C (B * k + i) j) : After C N B M L (k + 1) sup' keep' := by
  obtain ⟨b, hb, h1, h2, h3⟩ := h.ex
  have hbk : b = k := by
    rcases Nat.lt_or_eq_of_le hb with h | h
    · exact absurd (h1 h) (not_le.2 hM)
    · exact h
  subst hbk
  have hB1 : B * (b + 1) = B * b + B := by ring
  have hkept : ∀ j < B, f j ↔ ¬ Kept C N (B * b + j) := by
    refine block_unique hf fun j hj => ?_
    rw [h3 _ (by omega), kept_iff]
    constructor
    · intro hn
      by_cases hN : B * b + j < N
      · push Not at hn
        obtain ⟨i, hi, hk, hc⟩ := hn hN
        by_cases hib : i < B * b
        · exact .inl (.inr ⟨i, hib, hk, hc⟩)
        · refine .inr ⟨i - B * b, by omega, ?_⟩
          rw [show B * b + (i - B * b) = i by omega]
          exact ⟨hc, not_not.2 hk⟩
      · exact .inl (.inl (by omega))
    · rintro ((hN | ⟨i, hi, hk, hc⟩) | ⟨i, hi, hc, hk⟩) ⟨hlt, hall⟩
      · omega
      · exact hall i (by omega) hk hc
      · exact hall (B * b + i) (by omega) (not_not.1 hk) hc
  refine ⟨⟨b + 1, le_rfl, fun h => absurd h (lt_irrefl _), fun j hj => ?_, fun j hj => ?_⟩⟩
  · rw [hk' j hj]
    split_ifs with hin
    · rw [hkept _ (by omega), not_not, show B * b + (j - B * b) = j by omega]
      exact ⟨fun h => ⟨h, hin.2⟩, fun h => h.1⟩
    · rw [h2 j hj]
      exact ⟨fun h => ⟨h.1, by omega⟩, fun h => ⟨h.1, by omega⟩⟩
  · rw [hs' j hj, h3 j hj]
    constructor
    · rintro ((hN | ⟨i, hi, hk, hc⟩) | ⟨i, hi, hf', hc⟩)
      · exact .inl hN
      · exact .inr ⟨i, by omega, hk, hc⟩
      · refine .inr ⟨B * b + i, by omega, ?_, hc⟩
        rw [hkept i hi, not_not] at hf'
        exact hf'
    · rintro (hN | ⟨i, hi, hk, hc⟩)
      · exact .inl (.inl hN)
      · by_cases hib : i < B * b
        · exact .inl (.inr ⟨i, hib, hk, hc⟩)
        · refine .inr ⟨i - B * b, by omega, ?_, ?_⟩
          · rw [hkept _ (by omega), not_not, show B * b + (i - B * b) = i by omega]
            exact hk
          · rw [show B * b + (i - B * b) = i by omega]; exact hc

/-- After all the blocks: for `r` below `M`, the kept lane with `r` kept lanes before it is the `r`-th kept candidate. -/
theorem After.isPick_iff {k : ℕ} {sup keep : ℕ → Prop} (h : After C N B M L k sup keep) (hL : L = B * k) (hN : N ≤ L) {r : ℕ}
    (hr : r < M) (j : ℕ) : (j < L ∧ keep j ∧ Nat.count keep j = r) ↔ IsPick C N r j := by
  obtain ⟨b, hb, h1, h2, _⟩ := h.ex
  have hcount : ∀ j, j ≤ B * b → Nat.count keep j = Nat.count (Kept C N) j := by
    intro j
    induction j with
    | zero => intro _; rw [Nat.count_zero, Nat.count_zero]
    | succ j ih =>
      intro hj
      have hbL : B * b ≤ L := hL ▸ Nat.mul_le_mul_left B hb
      rw [Nat.count_succ, Nat.count_succ, ih (by omega)]
      have : keep j ↔ Kept C N j := (h2 j (by omega)).trans ⟨fun h => h.1, fun h => ⟨h, by omega⟩⟩
      by_cases hk : Kept C N j
      · rw [if_pos hk, if_pos (this.2 hk)]
      · rw [if_neg hk, if_neg fun h => hk (this.1 h)]
  have hend : ∀ j, B * b ≤ j → j ≤ L → Nat.count keep j = Nat.count keep (B * b) := by
    intro j hj
    induction j, hj using Nat.le_induction with
    | base => exact fun _ => rfl
    | succ j hj ih =>
      intro hL'
      rw [Nat.count_succ, ih (by omega), if_neg, Nat.add_zero]
      intro hk
      exact absurd ((h2 j (by omega)).1 hk).2 (by omega)
  have hbL : B * b ≤ L := hL ▸ Nat.mul_le_mul_left B hb
  constructor
  · rintro ⟨hj, hk, hc⟩
    obtain ⟨hk', hjb⟩ := (h2 j hj).1 hk
    exact ⟨hk', (hcount j hjb.le).symm.trans hc⟩
  · rintro ⟨hk, hc⟩
    have hjL : j < L := lt_of_lt_of_le ((kept_iff j).1 hk).1 hN
    have hjb : j < B * b := by
      by_contra hge
      have hbk : b < k := by
        rcases Nat.lt_or_eq_of_le hb with h | h
        · exact h
        · subst h; omega
      have h4 := h1 hbk
      rw [hend L hbL le_rfl, hcount _ le_rfl] at h4
      have := Nat.count_monotone (Kept C N) (not_lt.1 hge)
      simp only [before] at hc
      omega
    exact ⟨hjL, (h2 j hjL).2 ⟨hk, hjb⟩, (hcount j hjb.le).trans hc⟩

/-- There is an `r`-th kept candidate exactly when more than `r` lanes are kept. -/
theorem After.exists_iff {k : ℕ} {sup keep : ℕ → Prop} (h : After C N B M L k sup keep) (hL : L = B * k) (hN : N ≤ L) {r : ℕ}
    (hr : r < M) : (∃ j, IsPick C N r j) ↔ r < Nat.count keep L := by
  constructor
  · rintro ⟨j, hj⟩
    obtain ⟨hjL, hk, hc⟩ := (h.isPick_iff hL hN hr j).2 hj
    exact hc ▸ Nat.count_strict_mono hk hjL
  · intro hlt
    obtain ⟨j, hj, hk, hc⟩ := exists_count_eq hlt
    exact ⟨j, (h.isPick_iff hL hN hr j).1 ⟨hj, hk, hc⟩⟩

end Blocks

end Cert.Proof.Greedy

end
-- ==== Proof.Math.Payload.lean ====
module

public import proofs.«01_k».proof.Proof.KernelIdeal.Sem
public import proofs.«01_k».proof.Proof.Math.Ind
public import proofs.«01_k».proof.Proof.Math.Greedy

/-! The kernel's vector expressions on zero-one data, over the extended reals: suppression, keeping and closeness are
    indicators, and each expression computes the indicator of what it means. -/

@[expose] public section

set_option maxRecDepth 16384

noncomputable section

namespace Cert.Proof.KernelIdeal

open Cert.KernelIdeal Cert.KernelIdeal.Gen
open Idealize.ShloMosaic Idealize.ShloMosaic.TcCoe
open Cert.Proof.Ind

/-- Two points are less than one apart, by the square of their distance. -/
def Near (x y u v : EReal) : Prop := (x - u) * (x - u) + (y - v) * (y - v) < 1

/-- The square of a difference does not depend on the order. -/
theorem sq_comm (a b : EReal) : (a - b) * (a - b) = (b - a) * (b - a) := by
  by_cases h : a = b
  · rw [h]
  · have e : b - a = -(a - b) := by
      rw [EReal.neg_sub, sub_eq_add_neg, add_comm]
      · by_contra hn; push Not at hn; exact h (hn.1.trans hn.2.symm)
      · by_contra hn; push Not at hn; exact h (hn.1.trans hn.2.symm)
    rw [e, neg_mul_neg]

/-- Nearness is symmetric in its two points. -/
theorem near_comm {x y u v : EReal} : Near x y u v ↔ Near u v x y := by
  rw [Near, Near, sq_comm x u, sq_comm y v]

/-- Closeness of candidates `i` and `j` by their centers. -/
def Close (cx cy : ℕ → EReal) (i j : ℕ) : Prop := Near (cx i) (cy i) (cx j) (cy j)

/-- Two candidates are close in either order. -/
theorem close_comm {cx cy : ℕ → EReal} {i j : ℕ} : Close cx cy i j ↔ Close cx cy j i := near_comm

/-- The comparison of a squared distance with one, as a bit, is the indicator of nearness. -/
theorem near_bit (x y u v : EReal) [Decidable ((x - u) * (x - u) + (y - v) * (y - v) < 1)] :
    (FloatOps.sitofp .f32 (BitVec.setWidth 32 (BitVec.ofBool (decide ((x - u) * (x - u) + (y - v) * (y - v) < 1)))) : Ideal .f32)
      = ind (Near x y u v) := sitofp_decide _

/-- Closeness within a block. -/
theorem pay5_at (a b : Vec Ideal S128x1 .f32) (c d : Vec Ideal S1x128 .f32) (i j : Fin 128) :
    k0_pay5 a b c d (ix2 i j) = ind (Near (a (ix2 i 0)) (b (ix2 i 0)) (c (ix2 0 j)) (d (ix2 0 j))) := by
  pointwise [k0_pay5]
  exact near_bit _ _ _ _

/-- The strictly upper triangle mask, entry by entry. -/
theorem pay22_at (i j : Fin 128) : k0_pay22 (F := Ideal) (ix2 i j) = ind (i.val < j.val) := by
  pointwise [k0_pay22]
  exact sitofp_slt (by omega) (by omega)

/-- The strictly lower triangle mask, entry by entry. -/
theorem pay23_at (i j : Fin 128) : k0_pay23 (F := Ideal) (ix2 i j) = ind (j.val < i.val) := by
  pointwise [k0_pay23]
  exact sitofp_slt (by omega) (by omega)

/-- Closeness to a later lane of the block. -/
theorem pay6_at (a b : Vec Ideal S128x1 .f32) (c d : Vec Ideal S1x128 .f32) (i j : Fin 128) :
    k0_pay6 k0_pay22 a b c d (ix2 i j) = ind (Near (a (ix2 i 0)) (b (ix2 i 0)) (c (ix2 0 j)) (d (ix2 0 j)) ∧ i.val < j.val) := by
  have h : k0_pay6 k0_pay22 a b c d (ix2 i j) = k0_pay5 a b c d (ix2 i j) * k0_pay22 (F := Ideal) (ix2 i j) := rfl
  rw [h, pay5_at, pay22_at, ind_mul]

/-- Closeness to an earlier lane of the block. -/
theorem pay7_at (a b : Vec Ideal S128x1 .f32) (c d : Vec Ideal S1x128 .f32) (i j : Fin 128) :
    k0_pay7 k0_pay23 a b c d (ix2 i j) = ind (Near (a (ix2 i 0)) (b (ix2 i 0)) (c (ix2 0 j)) (d (ix2 0 j)) ∧ j.val < i.val) := by
  have h : k0_pay7 k0_pay23 a b c d (ix2 i j) = k0_pay5 a b c d (ix2 i j) * k0_pay23 (F := Ideal) (ix2 i j) := rfl
  rw [h, pay5_at, pay23_at, ind_mul]

/-- The rows' suppression from the lanes'. -/
theorem pay1_at {l : Vec Ideal S128x128 .f32} {e : Vec Ideal S128x1 .f32} {a : Vec Ideal S1x128 .f32}
    {L : ℕ → ℕ → Prop} {E A : ℕ → Prop} (hl : ∀ i j : Fin 128, l (ix2 i j) = ind (L i j)) (he : ∀ i : Fin 128, e (ix2 i 0) = ind (E i))
    (ha : ∀ j : Fin 128, a (ix2 0 j) = ind (A j)) (i : Fin 128) :
    k0_pay1 l e a (ix2 i 0) = ind (E i ∨ ∃ j : Fin 128, L i j ∧ ¬ A j) := by
  pointwise [k0_pay1]
  simp only [hl, he, ha, one_sub_ind, ind_mul, fold_max_ind, max_ind]

/-- The lanes' suppression from the rows'. -/
theorem pay2_at {l u : Vec Ideal S128x128 .f32} {e : Vec Ideal S128x1 .f32} {f : Vec Ideal S1x128 .f32} {a : Vec Ideal S1x128 .f32}
    {U : ℕ → ℕ → Prop} {B F' : ℕ → Prop} (hu : ∀ i j : Fin 128, u (ix2 i j) = ind (U i j))
    (hb : ∀ i : Fin 128, k0_pay1 l e a (ix2 i 0) = ind (B i)) (hf : ∀ j : Fin 128, f (ix2 0 j) = ind (F' j)) (j : Fin 128) :
    k0_pay2 l e u f a (ix2 0 j) = ind (F' j ∨ ∃ i : Fin 128, U i j ∧ ¬ B i) := by
  pointwise [k0_pay2]
  simp only [hu, hb, hf, one_sub_ind, ind_mul, fold_max_ind, max_ind]

/-- A choice between one and zero is an indicator. -/
theorem ite_ind (p : Prop) [Decidable p] : (if p then (1 : EReal) else 0) = ind p := by
  by_cases h : p
  · rw [if_pos h, ind_true h]
  · rw [if_neg h, ind_false h]

/-- Whether a lane changed. -/
theorem pay3_at (l u : Vec Ideal S128x128 .f32) (e : Vec Ideal S128x1 .f32) (f a : Vec Ideal S1x128 .f32) :
    k0_pay3 l e u f a = ind (∃ j : Fin 128, k0_pay2 l e u f a (ix2 0 j) ≠ a (ix2 0 j)) := by
  pointwise [k0_pay3]
  simp only [ite_ind, fold_max_ind]
  exact ind_congr ⟨fun ⟨x, h⟩ => ⟨x.2, h⟩, fun ⟨x, h⟩ => ⟨(0, x), h⟩⟩

/-- Whether a row changed. -/
theorem pay4_at (l : Vec Ideal S128x128 .f32) (e : Vec Ideal S128x1 .f32) (a : Vec Ideal S1x128 .f32) (b : Vec Ideal S128x1 .f32) :
    k0_pay4 l e a b = ind (∃ i : Fin 128, k0_pay1 l e a (ix2 i 0) ≠ b (ix2 i 0)) := by
  pointwise [k0_pay4]
  simp only [ite_ind, fold_max_ind]
  exact ind_congr ⟨fun ⟨x, h⟩ => ⟨x.1, h⟩, fun ⟨x, h⟩ => ⟨(x, 0), h⟩⟩

/-- One minus the indicator row is the indicator of the negation. -/
theorem pay8_at {a : Vec Ideal S1x128 .f32} {A : ℕ → Prop} (ha : ∀ j : Fin 128, a (ix2 0 j) = ind (A j)) (j : Fin 128) :
    k0_pay8 (F := Ideal) a (ix2 0 j) = ind (¬ A j) := by
  pointwise [k0_pay8]
  rw [ha, one_sub_ind]

/-- One minus the indicator row is the indicator of the negation. -/
theorem pay9_at {a : Vec Ideal S1x128 .f32} {A : ℕ → Prop} (ha : ∀ j : Fin 128, a (ix2 0 j) = ind (A j)) (j : Fin 128) :
    k0_pay9 (F := Ideal) a (ix2 0 j) = ind (¬ A j) := by
  pointwise [k0_pay9]
  exact pay8_at ha j

/-- One minus the indicator column is the indicator of the negation. -/
theorem pay10_at {a : Vec Ideal S128x1 .f32} {A : ℕ → Prop} (ha : ∀ j : Fin 128, a (ix2 j 0) = ind (A j)) (j : Fin 128) :
    k0_pay10 (F := Ideal) a (ix2 j 0) = ind (¬ A j) := by
  pointwise [k0_pay10]
  rw [ha, one_sub_ind]

/-- The lanes' suppression after a block. -/
theorem pay12_at {bx by' al : Vec Ideal S128x1 .f32} {cx cy s : Vec Ideal S1x2048 .f32} {S A : ℕ → Prop}
    (hs : ∀ j : Fin 2048, s (ix2 0 j) = ind (S j)) (ha : ∀ i : Fin 128, al (ix2 i 0) = ind (A i)) (j : Fin 2048) :
    k0_pay12 by' al (k0_pay11 bx cx) cy s (ix2 0 j)
      = ind (S j ∨ ∃ i : Fin 128, Near (bx (ix2 i 0)) (by' (ix2 i 0)) (cx (ix2 0 j)) (cy (ix2 0 j)) ∧ A i) := by
  pointwise [k0_pay12, k0_pay11]
  refine (congrArg₂ max (hs j) ((Finset.fold_congr (g := fun x : Fin 128 => ind (_ ∧ A x)) fun x _ => ?_).trans
    (fold_max_ind _))).trans (Ind.max_ind _ _)
  exact (congrArg₂ (· * ·) (near_bit _ _ _ _) (ha x)).trans (ind_mul _ _)

/-- The rows' suppression after a block. -/
theorem pay13_at {bx by' al : Vec Ideal S1x128 .f32} {cx cy s : Vec Ideal S2048x1 .f32} {S A : ℕ → Prop}
    (hs : ∀ j : Fin 2048, s (ix2 j 0) = ind (S j)) (ha : ∀ i : Fin 128, al (ix2 0 i) = ind (A i)) (j : Fin 2048) :
    k0_pay25 (k0_pay13 bx by' al cx cy s) (ix2 j 0)
      = ind (S j ∨ ∃ i : Fin 128, Near (cx (ix2 j 0)) (cy (ix2 j 0)) (bx (ix2 0 i)) (by' (ix2 0 i)) ∧ A i) := by
  pointwise [k0_pay25, k0_pay13]
  refine (congrArg₂ max (hs j) ((Finset.fold_congr (g := fun x : Fin 128 => ind (_ ∧ A x)) fun x _ => ?_).trans
    (fold_max_ind _))).trans (Ind.max_ind _ _)
  exact (congrArg₂ (· * ·) (near_bit _ _ _ _) (ha x)).trans (ind_mul _ _)

/-- A counter below 2^31 compares with 2000, as signed words, the way the numbers do. -/
theorem sge_word {a : ℕ} (ha : a < 2 ^ 31) :
    IntOp.cmpi CmpIPredicate.sge (BitVec.ofNat 32 a) 2000#32 = BitVec.ofBool (decide (2000 ≤ a)) := by
  show BitVec.ofBool ((BitVec.ofNat 32 2000).sle (BitVec.ofNat 32 a)) = _
  congr 1
  rw [BitVec.sle_eq_decide, toInt_word ha, toInt_word (by omega)]
  simp

/-- Lanes past the candidates start suppressed. -/
theorem pay19_at (j : Fin 2048) : k0_pay19 (F := Ideal) (ix2 0 j) = ind (2000 ≤ j.val) := by
  pointwise [k0_pay19]
  rw [sge_word (by omega)]
  by_cases h : 2000 ≤ j.val <;> simp [h, ind, Scalar.select]

/-- The initial column of marks: exactly the padding is marked. -/
theorem pay20_at (j : Fin 2048) : k0_pay20 (F := Ideal) (ix2 j 0) = ind (2000 ≤ j.val) := by
  pointwise [k0_pay20]
  rw [sge_word (by omega)]
  by_cases h : 2000 ≤ j.val <;> simp [h, ind, Scalar.select]

/-- The initial row of kept marks: nothing is kept. -/
theorem pay21_at (j : Fin 2048) : k0_pay21 (F := Ideal) (ix2 0 j) = ind False := by
  pointwise [k0_pay21]
  rw [ind_false not_false]

/-- The number of kept lanes. -/
theorem pay24_at {v : Vec Ideal S1x2048 .f32} {K : ℕ → Prop} [DecidablePred K] (hv : ∀ j : Fin 2048, v (ix2 0 j) = ind (K j)) :
    k0_pay24 v = ((Nat.count K 2048 : ℕ) : EReal) := by
  pointwise [k0_pay24]
  simp only [hv]
  rw [Fintype.sum_unique, sum_ind]
  congr

/-- Whether fewer than 500 lanes are kept. -/
theorem few_at {v : Vec Ideal S1x2048 .f32} {K : ℕ → Prop} [DecidablePred K] (hv : ∀ j : Fin 2048, v (ix2 0 j) = ind (K j)) :
    k0_cond1 (few v) = 1#1 ↔ Nat.count K 2048 < 500 := by
  have h500 : Ideal.ofBits .f32 0x43FA0000#32 = ((500 : ℕ) : EReal) := by
    rw [show ((500 : ℕ) : EReal) = ((500 : ℝ) : EReal) by norm_cast]
    simp [Ideal.ofBits, Ideal.ieee, -EReal.coe_mul]
    norm_num
  have hf : few v = BitVec.ofBool (decide (k0_pay24 v < Ideal.ofBits .f32 0x43FA0000#32)) := rfl
  rw [hf, pay24_at hv, h500]
  by_cases h : Nat.count K 2048 < 500
  · have h' : ((Nat.count K 2048 : ℕ) : EReal) < ((500 : ℕ) : EReal) := by exact_mod_cast h
    rw [decide_eq_true h']
    exact ⟨fun _ => h, fun _ => by decide⟩
  · have h' : ¬ ((Nat.count K 2048 : ℕ) : EReal) < ((500 : ℕ) : EReal) := by exact_mod_cast h
    rw [decide_eq_false h']
    exact ⟨fun h => absurd h (by decide), fun h2 => absurd h2 h⟩

end Cert.Proof.KernelIdeal

end
-- ==== Proof.Math.RefAt.lean ====
module

public import proofs.«01_k».proof.Proof.Math.RefStep
public import proofs.«01_k».proof.Proof.Math.Payload
public import Idealize.ShloMosaic.Lib.Routing.OpsSet

/-! One trip of the reference's loop, read element by element. -/

@[expose] public section

set_option maxRecDepth 16384

noncomputable section

namespace Cert.Proof.Reference

open Cert.ReferenceIdeal Cert.ReferenceIdeal.Gen
open Idealize.ShloMosaic Idealize.ShloMosaic.TcCoe
open Cert.Proof.Ind

/-- The bit of a statement is one exactly when the statement holds. -/
theorem ofBool_iff (p : Prop) [Decidable p] : BitVec.ofBool (decide p) = 1#1 ↔ p := by
  by_cases h : p <;> simp [h]

/-- The centre of box `p`, in every row. -/
theorem centre_at (cen : FVec Ideal S2000x2 .f32) (p : Fin 2000) (j : Fin 2000) (c : Fin 2) :
    centre cen ![(p.val : Int), 0] (ix2 j c) = cen (ix2 p c) := by
  have e0 : Host.clampedStart S2000x2 S1x2 rfl ![(p.val : Int), 0] 0 = p.val :=
    Host.clampedStart_of_le _ _ _ _ rfl p.isLt
  have e1 : Host.clampedStart S2000x2 S1x2 rfl ![(p.val : Int), 0] 1 = 0 :=
    Host.clampedStart_of_le _ _ _ _ rfl (Nat.le_refl 2)
  unfold centre
  pointwise
  exact congrArg cen (congrArg₂ ix2 (Fin.ext e0) (Fin.ext (by simp [e1])))

/-- A box is suppressed after the trip when it was, or lies near the taken box `p`, or is that box. -/
theorem supNext_at (cen : FVec Ideal S2000x2 .f32) (sup : IVec S2000 1) (w : IVec S_ 32) (p : Fin 2000)
    (hw : ∀ i, w i = BitVec.ofNat 32 p) (j : Fin 2000) :
    supNext cen sup ![(p.val : Int), 0] w (ix1 j) = 1#1
      ↔ sup (ix1 j) = 1#1 ∨ KernelIdeal.Near (cen (ix2 j 0)) (cen (ix2 j 1)) (cen (ix2 p 0)) (cen (ix2 p 1)) ∨ j = p := by
  have hl : ∀ k, scatter_S2000_S1_S__n_0_0_0.resultIdx? k (broadcastInDim S1 ![] bcast_S_S1 w) = some (ix1 j) ↔ p = j := fun k => by
    refine (Routing.resultIdx?_ix1 (N := 2000) _ k _ j).trans ?_
    have h1 : scatter_S2000_S1_S__n_0_0_0.window k 0 = 0 := rfl
    have h2 : scatter_S2000_S1_S__n_0_0_0.start k (broadcastInDim S1 ![] bcast_S_S1 w) 0 = (w ix0).toInt := by
      rw [show w = fun _ => BitVec.ofNat 32 p from funext hw]
      rfl
    rw [h1, h2, hw, toInt_word (by omega)]
    simp [Fin.ext_iff]
  have hor : ∀ a b : BitVec 1, IntOp.ori a b = 1#1 ↔ a = 1#1 ∨ b = 1#1 := by decide
  unfold supNext
  by_cases hj : p = j
  · rw [Routing.scatter_set_hit _ _ _ (constantI S_ 1 1#1) _ 1#1 (fun _ _ => rfl) ix0 ((hl _).2 hj)]
    simp [hj]
  · rw [Routing.scatter_set_miss _ _ _ (constantI S_ 1 1#1) _ fun k hk => hj ((hl k).1 hk)]
    pointwise
    rw [hor, Fin.sum_univ_two, centre_at, centre_at]
    refine or_congr_right ?_
    rw [or_iff_left (fun h => hj h.symm)]
    exact (ofBool_iff _).trans Iff.rfl

/-- The kept scores after trip `n`. -/
theorem scoresNext_at (out : FVec Ideal S500 .f32) (vals : FVec Ideal S2000 .f32) (n : Fin 500) (p : Fin 2000) (r : Fin 500) :
    scoresNext out vals ![(n.val : Int)] ![(p.val : Int)] (ix1 r) = if r = n then vals (ix1 p) else out (ix1 r) := by
  have e0 : Host.clampedStart S2000 S1 rfl ![(p.val : Int)] 0 = p.val :=
    Host.clampedStart_of_le _ _ _ _ rfl p.isLt
  have e1 : Host.clampedStart S500 S1 rfl ![(n.val : Int)] 0 = n.val :=
    Host.clampedStart_of_le _ _ _ _ rfl n.isLt
  unfold scoresNext
  pointwise
  by_cases h : r = n
  · rw [dif_pos (by rw [e1, h]; omega), if_pos h]
    exact congrArg vals (congrArg ix1 (Fin.ext e0))
  · rw [dif_neg (by rw [e1]; intro hc; exact h (Fin.ext (by omega))), if_neg h]

/-- The kept boxes after trip `n`. -/
theorem boxesNext_at (out : FVec Ideal S500x4 .f32) (box : FVec Ideal S2000x4 .f32) (n : Fin 500) (p : Fin 2000) (r : Fin 500)
    (c : Fin 4) :
    boxesNext out box ![(n.val : Int), 0] ![(p.val : Int), 0] (ix2 r c)
      = if r = n then box (ix2 p c) else out (ix2 r c) := by
  have e0 : Host.clampedStart S2000x4 S1x4 rfl ![(p.val : Int), 0] 0 = p.val :=
    Host.clampedStart_of_le _ _ _ _ rfl p.isLt
  have e1 : Host.clampedStart S2000x4 S1x4 rfl ![(p.val : Int), 0] 1 = 0 :=
    Host.clampedStart_of_le _ _ _ _ rfl (Nat.le_refl 4)
  have e2 : Host.clampedStart S500x4 S1x4 rfl ![(n.val : Int), 0] 0 = n.val :=
    Host.clampedStart_of_le _ _ _ _ rfl n.isLt
  have e3 : Host.clampedStart S500x4 S1x4 rfl ![(n.val : Int), 0] 1 = 0 :=
    Host.clampedStart_of_le _ _ _ _ rfl (Nat.le_refl 4)
  unfold boxesNext
  pointwise
  by_cases h : r = n
  · rw [dif_pos (by rw [e2, e3, h]; omega), if_pos h]
    exact congrArg box (congrArg₂ ix2 (Fin.ext e0) (Fin.ext (by simp [e1, e3])))
  · rw [dif_neg (by rw [e2]; intro hc; exact h (Fin.ext (by omega))), if_neg h]

end Cert.Proof.Reference
-- ==== Proof.Math.Argmax.lean ====
module

public import proofs.«01_k».proof.Proof.Math.RefStep
public import proofs.«01_k».proof.Proof.Math.Ind
public import Idealize.ShloMosaic.Lib.Routing.Ops

/-! The box the reference takes: the first one that is not suppressed, or box zero once every box is suppressed. -/

@[expose] public section

set_option maxRecDepth 16384

noncomputable section

open Classical

namespace Cert.Proof.Reference

open Cert.ReferenceIdeal Cert.ReferenceIdeal.Gen
open Idealize.ShloMosaic Idealize.ShloMosaic.TcCoe
open Cert.Proof.Ind

/-- A left fold over the positions below `n` satisfies any property that its start has and that each step passes on. -/
theorem foldl_finRange {α : Type} (P : ℕ → α → Prop) (n : ℕ) (f : α → Fin n → α) (a : α) (h0 : P 0 a)
    (hs : ∀ (i : Fin n) (b : α), P i b → P (i + 1) (f b i)) : P n ((List.finRange n).foldl f a) := by
  induction n with
  | zero => simpa using h0
  | succ n ih =>
    rw [List.finRange_succ_last, List.foldl_append, List.foldl_map]
    exact hs (Fin.last n) _ (ih (fun b i => f b i.castSucc) fun i b hb => hs i.castSucc b hb)

/-- One step of the comparison of score and index pairs. -/
theorem reducer_eq (x y : Ideal .f32) (i j : BitVec 32) :
    reducer_argmax_f32_i32 (F := Ideal) (x, i) (y, j)
      = ((if (y : EReal) < x then x else y), (if (y : EReal) < x ∨ ((x : EReal) = y ∧ i.toInt < j.toInt) then i else j)) := by
  unfold reducer_argmax_f32_i32
  by_cases h1 : (y : EReal) < x <;> by_cases h2 : (x : EReal) = y <;> by_cases h3 : i.toInt < j.toInt <;>
    simp [h1, h2, h3, Ideal.cmpf_def, Ideal.cmp, IntOp.cmpi, IntOp.ori, IntOp.andi, Scalar.select, BitVec.slt]

/-- The compared score of box `j`. -/
theorem masked_at (sup : IVec S2000 1) (vals : FVec Ideal S2000 .f32) (j : Fin 2000) :
    masked sup vals (ix1 j) = if sup (ix1 j) = 1#1 then (⊥ : EReal) else vals (ix1 j) := by
  unfold masked
  pointwise
  rw [ofBits_neg_inf]
  rfl

/-- What the fold over the first `n` boxes has found. -/
def Found (sup : IVec S2000 1) (vals : FVec Ideal S2000 .f32) (n : ℕ) (r : Ideal .f32 × BitVec 32) : Prop :=
  (∀ p : Fin 2000, p.val < n → sup (ix1 p) ≠ 1#1 → (∀ q : Fin 2000, q < p → sup (ix1 q) = 1#1) →
      r = (vals (ix1 p), BitVec.ofNat 32 p))
  ∧ ((∀ p : Fin 2000, p.val < n → sup (ix1 p) = 1#1) → r = ((⊥ : EReal), 0#32))

/-- The search for the largest unsuppressed score, one candidate further. -/
private theorem found_step {sup : IVec S2000 1} {vals : FVec Ideal S2000 .f32} (hpos : ∀ j : Fin 2000, (⊥ : EReal) < vals (ix1 j))
    (hanti : ∀ i j : Fin 2000, i ≤ j → (vals (ix1 j) : EReal) ≤ vals (ix1 i)) (n : Fin 2000) (r : Ideal .f32 × BitVec 32)
    (h : Found sup vals n r) :
    Found sup vals (n + 1) (reducer_argmax_f32_i32 (F := Ideal) r (masked sup vals (ix1 n), BitVec.ofNat 32 n)) := by
  have hn : (BitVec.ofNat 32 n.val).toInt = n.val := toInt_word (by omega)
  by_cases hex : ∃ p : Fin 2000, p.val < n.val ∧ sup (ix1 p) ≠ 1#1
  · -- an unsuppressed box was already met
    obtain ⟨p, hp, hsp, hmin⟩ : ∃ p : Fin 2000, p.val < n.val ∧ sup (ix1 p) ≠ 1#1 ∧ ∀ q : Fin 2000, q < p → sup (ix1 q) = 1#1 := by
      obtain ⟨p0, hp0⟩ := hex
      have hw : ∃ k : ℕ, ∃ hk : k < 2000, sup (ix1 ⟨k, hk⟩) ≠ 1#1 := ⟨p0.val, p0.isLt, hp0.2⟩
      obtain ⟨hk, hs⟩ := Nat.find_spec hw
      refine ⟨⟨Nat.find hw, hk⟩, lt_of_le_of_lt (Nat.find_min' hw ⟨p0.isLt, hp0.2⟩) hp0.1, hs, fun q hq => ?_⟩
      by_contra hc
      exact Nat.find_min hw hq ⟨q.isLt, hc⟩
    have hr := h.1 p hp hsp hmin
    subst hr
    have hpi : (BitVec.ofNat 32 p.val).toInt = p.val := toInt_word (by omega)
    have hle : (masked sup vals (ix1 n) : EReal) ≤ vals (ix1 p) := by
      rw [masked_at]
      split
      · exact bot_le
      · exact hanti p n (Fin.le_def.2 hp.le)
    have hres : reducer_argmax_f32_i32 (F := Ideal) (vals (ix1 p), BitVec.ofNat 32 p.val) (masked sup vals (ix1 n), BitVec.ofNat 32 n)
        = (vals (ix1 p), BitVec.ofNat 32 p.val) := by
      rw [reducer_eq]
      rcases lt_or_eq_of_le hle with hl | he
      · rw [if_pos hl, if_pos (Or.inl hl)]
      · rw [if_neg (not_lt.2 he.ge), if_pos (Or.inr ⟨he.symm, by rw [hpi, hn]; exact_mod_cast hp⟩), he]
    rw [hres]
    refine ⟨fun q _ hsq hq => ?_, fun hall => absurd (hall p (by omega)) hsp⟩
    rcases lt_trichotomy p q with hl | rfl | hl
    · exact absurd (hq p hl) hsp
    · rfl
    · exact absurd (hmin q hl) hsq
  · have hall : ∀ p : Fin 2000, p.val < n.val → sup (ix1 p) = 1#1 := fun p hp => by
      by_contra hc
      exact hex ⟨p, hp, hc⟩
    have hr := h.2 hall
    subst hr
    rw [reducer_eq, masked_at]
    by_cases hs : sup (ix1 n) = 1#1
    · rw [if_pos hs, if_neg (lt_irrefl _)]
      refine ⟨fun q hq hsq _ => ?_, fun _ => ?_⟩
      · rcases Nat.lt_succ_iff_lt_or_eq.1 hq with hl | he
        · exact absurd (hall q hl) hsq
        · rw [Fin.ext he] at hsq
          exact absurd hs hsq
      · congr 1
        split
        · rfl
        · next hc =>
          have : n.val = 0 := by
            by_contra h0
            refine hc (Or.inr ⟨rfl, ?_⟩)
            rw [hn]
            simpa using Nat.pos_of_ne_zero h0
          rw [this]
    · rw [if_neg hs, if_neg (not_lt.2 bot_le), if_neg (by
        rintro (hc | ⟨hc, -⟩)
        · exact absurd hc (not_lt.2 bot_le)
        · exact absurd hc (hpos n).ne)]
      refine ⟨fun q hq hsq hmin => ?_, fun hc => absurd (hc n (by omega)) hs⟩
      rcases Nat.lt_succ_iff_lt_or_eq.1 hq with hl | he
      · exact absurd (hall q hl) hsq
      · rw [Fin.ext he]

/-- The index word, by the first box that is not suppressed. -/
theorem word_found {sup : IVec S2000 1} {vals : FVec Ideal S2000 .f32} (hpos : ∀ j : Fin 2000, (⊥ : EReal) < vals (ix1 j))
    (hanti : ∀ i j : Fin 2000, i ≤ j → (vals (ix1 j) : EReal) ≤ vals (ix1 i)) (i : S_.Idx) :
    (∀ p : Fin 2000, sup (ix1 p) ≠ 1#1 → (∀ q : Fin 2000, q < p → sup (ix1 q) = 1#1) → word sup vals i = BitVec.ofNat 32 p)
    ∧ ((∀ p : Fin 2000, sup (ix1 p) = 1#1) → word sup vals i = 0#32) := by
  have key : ∃ r, Found sup vals 2000 r ∧ word sup vals i = r.2 := by
    unfold word
    rw [Ideal.argReduce_eq_reduce2]
    unfold Host.reduce2
    rw [List.filter_eq_self.2 (fun n _ => decide_eq_true (Subsingleton.elim (α := (⟨0, ![]⟩ : Shape).Idx) _ _))]
    refine ⟨_, foldl_finRange (Found sup vals) 2000 _ _ ?_ fun n b hb => ?_, rfl⟩
    · refine ⟨fun p hp => absurd hp (Nat.not_lt_zero _), fun _ => ?_⟩
      refine Prod.ext ?_ rfl
      exact ofBits_neg_inf
    · have := found_step hpos hanti n b hb
      have e : S2000.rowMajor.symm n = ix1 n := Routing.symm1 (N := 2000) n
      rw [e]
      exact this
  obtain ⟨r, hf, hw⟩ := key
  rw [hw]
  exact ⟨fun p hp hq => by rw [hf.1 p p.isLt hp hq], fun hall => by rw [hf.2 fun p _ => hall p]⟩

end Cert.Proof.Reference
-- ==== Proof.Math.RefRows.lean ====
module

public import proofs.«01_k».proof.Proof.Math.RefAt
public import proofs.«01_k».proof.Proof.Math.Argmax
public import proofs.«01_k».proof.Proof.Math.Greedy

/-! The reference's rows: row `r` of its result is the `r`-th box of the greedy selection, with that box's score. -/

@[expose] public section

set_option maxRecDepth 16384

noncomputable section

open Classical

namespace Cert.Proof.Reference

open Cert.ReferenceIdeal Cert.ReferenceIdeal.Gen
open Idealize.ShloMosaic Idealize.ShloMosaic.TcCoe
open Idealize.ShloMosaic.StableHlo
open Cert.Proof.Ind

variable (m : (ℓ : Loc nD τ sig) → Buf (Elt Ideal) ℓ) (c : Dev nD)

/-- The sorted scores the loop is entered with. -/
def valsOf : FVec Ideal S2000 .f32 := W0 m c (Proc.devRef .tc main_v11_0)
/-- The centres the loop is entered with. -/
def cenOf : FVec Ideal S2000x2 .f32 := W0 m c (Proc.devRef .tc main_v11_1)
/-- The boxes the loop is entered with. -/
def boxOf : FVec Ideal S2000x4 .f32 := W0 m c (Proc.devRef .tc main_v11_2)
/-- The suppressed boxes before trip `k`. -/
def supOf (k : ℕ) : IVec S2000 1 := Wk m k c (Proc.devRef .tc main_v11_4)
/-- The kept scores before trip `k`. -/
def scoresOf (k : ℕ) : FVec Ideal S500 .f32 := Wk m k c (Proc.devRef .tc main_v11_5)
/-- The kept boxes before trip `k`. -/
def boxesOf (k : ℕ) : FVec Ideal S500x4 .f32 := Wk m k c (Proc.devRef .tc main_v11_6)

/-- The loop leaves what its steps only read as it was. -/
theorem kept (k : ℕ) : Wk m k c (Proc.devRef .tc main_v11_0) = valsOf m c
    ∧ Wk m k c (Proc.devRef .tc main_v11_1) = cenOf m c ∧ Wk m k c (Proc.devRef .tc main_v11_2) = boxOf m c := by
  induction k with
  | zero => exact ⟨rfl, rfl, rfl⟩
  | succ k ih =>
    have h := cond_kept (Wk m k c)
    have e : Wk m (k + 1) c = afterL bodyI (after condOps (Wk m k c)) := rfl
    rw [e, body_kept0, body_kept1, body_kept2, h.1, h.2.1, h.2.2.1]
    exact ih

/-- The word trip `k` takes. -/
def wordAt (k : ℕ) : IVec S_ 32 := word (supOf m c k) (valsOf m c)

/-- The position that a step reads is the one named for it. -/
theorem wordOf_eq (k : ℕ) : wordOf (after condOps (Wk m k c)) = wordAt m c k := by
  have h := cond_kept (Wk m k c)
  unfold wordOf wordAt supOf
  rw [h.1, h.2.2.2.2.1, (kept m c k).1]

/-- At the loop's entry no box is suppressed. -/
theorem sup_zero : supOf m c 0 = fun _ => 0#1 := by
  show afterL preI _ _ = _
  rw [afterL_eq_after_flatten]
  after_reads_simp
  rfl

/-- A position in range is not changed by the wrapping of negative positions. -/
theorem wrapped_ofNat {w : IVec S_ 32} {p : ℕ} (hp : p < 2000) (hw : ∀ i, w i = BitVec.ofNat 32 p) (i : S_.Idx) :
    wrapped w i = BitVec.ofNat 32 p := by
  have : wrapped w i = Scalar.select (IntOp.cmpi .slt (w i) 0#32) (IntOp.addi (w i) 2000#32) (w i) := rfl
  rw [this, Routing.wrap_of_lt _ _ (by rw [hw, BitVec.toNat_ofNat, Nat.mod_eq_of_lt (by omega)]; omega), hw]

/-- Trip `k`, once its word is known to be `p`: what it leaves. -/
theorem trip {k : ℕ} (hk : k < 500) {p : Fin 2000} (hw : ∀ i, wordAt m c k i = BitVec.ofNat 32 p) :
    (∀ r : Fin 500, scoresOf m c (k + 1) (ix1 r) = if r = ⟨k, hk⟩ then valsOf m c (ix1 p) else scoresOf m c k (ix1 r))
    ∧ (∀ (r : Fin 500) (d : Fin 4), boxesOf m c (k + 1) (ix2 r d)
        = if r = ⟨k, hk⟩ then boxOf m c (ix2 p d) else boxesOf m c k (ix2 r d)) := by
  have h := cond_kept (Wk m k c)
  have hs : startOf (after condOps (Wk m k c)) = (p.val : Int) := by
    unfold startOf
    rw [wordOf_eq, wrapped_ofNat p.isLt hw, toInt_word (by omega)]
  have hc : counterOf (after condOps (Wk m k c)) = (((⟨k, hk⟩ : Fin 500)).val : Int) := by
    unfold counterOf
    rw [h.2.2.2.1, ctr]
    show (Scf.iv 0#32 1#32 k).toInt = (k : Int)
    unfold Scf.iv
    rw [BitVec.zero_add, BitVec.mul_one, toInt_word (by omega)]
  refine ⟨fun r => ?_, fun r d => ?_⟩
  · show afterL bodyI (after condOps (Wk m k c)) (Proc.devRef .tc main_v11_5) (ix1 r) = _
    rw [body_scores, hs, hc]
    refine (scoresNext_at _ _ ⟨k, hk⟩ p r).trans ?_
    rw [h.1, h.2.2.2.2.2.1, (kept m c k).1]
    rfl
  · show afterL bodyI (after condOps (Wk m k c)) (Proc.devRef .tc main_v11_6) (ix2 r d) = _
    rw [body_boxes, hs, hc]
    refine (boxesNext_at _ _ ⟨k, hk⟩ p r d).trans ?_
    rw [h.2.2.1, h.2.2.2.2.2.2, (kept m c k).2.2]
    rfl

/-- The suppressed boxes after trip `k`. -/
theorem sup_succ {k : ℕ} {p : Fin 2000} (hw : ∀ i, wordAt m c k i = BitVec.ofNat 32 p) (j : Fin 2000) :
    supOf m c (k + 1) (ix1 j) = 1#1 ↔ supOf m c k (ix1 j) = 1#1
      ∨ KernelIdeal.Near (cenOf m c (ix2 j 0)) (cenOf m c (ix2 j 1)) (cenOf m c (ix2 p 0)) (cenOf m c (ix2 p 1)) ∨ j = p := by
  have h := cond_kept (Wk m k c)
  have hs : startOf (after condOps (Wk m k c)) = (p.val : Int) := by
    unfold startOf
    rw [wordOf_eq, wrapped_ofNat p.isLt hw, toInt_word (by omega)]
  show afterL bodyI (after condOps (Wk m k c)) (Proc.devRef .tc main_v11_4) (ix1 j) = 1#1 ↔ _
  rw [body_sup, hs, wordOf_eq, h.2.1, h.2.2.2.2.1, (kept m c k).2.1]
  exact supNext_at _ _ _ p (wrapped_ofNat p.isLt hw) j

section rows

variable {m c} {cx cy : ℕ → EReal} (hcx : ∀ j : Fin 2000, cenOf m c (ix2 j 0) = cx j) (hcy : ∀ j : Fin 2000, cenOf m c (ix2 j 1) = cy j)
  (hpos : ∀ j : Fin 2000, (⊥ : EReal) < valsOf m c (ix1 j))
  (hanti : ∀ i j : Fin 2000, i ≤ j → (valsOf m c (ix1 j) : EReal) ≤ valsOf m c (ix1 i))

include hpos hanti in
/-- Every trip takes some box: the first unsuppressed one, or box zero. -/
theorem word_exists (k : ℕ) : ∃ p : ℕ, p < 2000 ∧ (∀ i, wordAt m c k i = BitVec.ofNat 32 p)
    ∧ ((∃ j : Fin 2000, supOf m c k (ix1 j) ≠ 1#1) →
        ∃ q : Fin 2000, q.val = p ∧ supOf m c k (ix1 q) ≠ 1#1 ∧ ∀ j : Fin 2000, j < q → supOf m c k (ix1 j) = 1#1)
    ∧ ((∀ j : Fin 2000, supOf m c k (ix1 j) = 1#1) → p = 0) := by
  have hf := fun i => word_found (sup := supOf m c k) hpos hanti i
  by_cases hex : ∃ j : Fin 2000, supOf m c k (ix1 j) ≠ 1#1
  · obtain ⟨q, hq, hmin⟩ : ∃ q : Fin 2000, supOf m c k (ix1 q) ≠ 1#1 ∧ ∀ j : Fin 2000, j < q → supOf m c k (ix1 j) = 1#1 := by
      have hw : ∃ n : ℕ, ∃ hn : n < 2000, supOf m c k (ix1 ⟨n, hn⟩) ≠ 1#1 := by
        obtain ⟨j, hj⟩ := hex
        exact ⟨j.val, j.isLt, hj⟩
      obtain ⟨hn, hs⟩ := Nat.find_spec hw
      refine ⟨⟨Nat.find hw, hn⟩, hs, fun j hj => ?_⟩
      by_contra hc
      exact Nat.find_min hw hj ⟨j.isLt, hc⟩
    exact ⟨q.val, q.isLt, fun i => (hf i).1 q hq hmin, fun _ => ⟨q, rfl, hq, hmin⟩, fun hall => absurd (hall q) hq⟩
  · have hall : ∀ j : Fin 2000, supOf m c k (ix1 j) = 1#1 := fun j => by
      by_contra hc
      exact hex ⟨j, hc⟩
    exact ⟨0, by omega, fun i => (hf i).2 hall, fun h => absurd h hex, fun _ => rfl⟩

include hcx hcy hpos hanti in
/-- Trip `k` takes the `k`-th box of the greedy selection. -/
theorem word_pick (k : ℕ) (i : S_.Idx) : wordAt m c k i = BitVec.ofNat 32 (Greedy.pick (KernelIdeal.Close cx cy) 2000 k) := by
  choose idx hlt hword hsome hnone using word_exists hpos hanti
  have key := Greedy.suppressed_iff (N := 2000) (C := KernelIdeal.Close cx cy) (idx := idx)
    (S := fun k j => ∃ hj : j < 2000, supOf m c k (ix1 ⟨j, hj⟩) = 1#1) (by omega)
    (by
      rintro j hj ⟨_, h⟩
      rw [sup_zero] at h
      have h' : (0#1 : BitVec 1) = 1#1 := h
      exact absurd h' (by decide))
    (by
      intro t j hj
      have hs := sup_succ m c (p := ⟨idx t, hlt t⟩) (hword t) ⟨j, hj⟩
      rw [hcx, hcy, hcx, hcy, KernelIdeal.near_comm] at hs
      constructor
      · rintro ⟨_, h⟩
        rcases hs.1 h with h | h | h
        · exact .inl ⟨hj, h⟩
        · exact .inr (.inl h)
        · exact .inr (.inr (congrArg Fin.val h))
      · rintro (⟨_, h⟩ | h | h)
        · exact ⟨hj, hs.2 (.inl h)⟩
        · exact ⟨hj, hs.2 (.inr (.inl h))⟩
        · exact ⟨hj, hs.2 (.inr (.inr (Fin.ext h)))⟩)
    (by
      rintro t ⟨j, hj, hn⟩
      obtain ⟨q, hq, hs, hmin⟩ := hsome t ⟨⟨j, hj⟩, fun h => hn ⟨hj, h⟩⟩
      refine ⟨hlt t, ?_, fun j hj => ⟨by have := q.isLt; omega, hmin ⟨j, by have := q.isLt; omega⟩ (Fin.lt_def.2 (show j < q.val by omega))⟩⟩
      rintro ⟨_, h⟩
      refine hs ?_
      rw [← h]
      exact congrArg _ (congrArg ix1 (Fin.ext hq)))
    (fun t h => hnone t fun j => (h j j.isLt).2) k
  rw [hword, key.2]

include hcx hcy hpos hanti in
/-- The rows written before trip `k`. -/
theorem rows (k : ℕ) (hk : k ≤ 500) (r : Fin 500) (hr : r.val < k) :
    scoresOf m c k (ix1 r) = valsOf m c (ix1 ⟨Greedy.pick (KernelIdeal.Close cx cy) 2000 r, Greedy.pick_lt (by omega) r⟩)
    ∧ ∀ d : Fin 4, boxesOf m c k (ix2 r d)
        = boxOf m c (ix2 ⟨Greedy.pick (KernelIdeal.Close cx cy) 2000 r, Greedy.pick_lt (by omega) r⟩ d) := by
  induction k with
  | zero => exact absurd hr (Nat.not_lt_zero _)
  | succ k ih =>
    obtain ⟨h1, h2⟩ := trip m c (k := k) (by omega)
      (p := ⟨Greedy.pick (KernelIdeal.Close cx cy) 2000 k, Greedy.pick_lt (by omega) k⟩) (word_pick hcx hcy hpos hanti k)
    by_cases he : r.val = k
    · refine ⟨?_, fun d => ?_⟩
      · rw [h1, if_pos (Fin.ext he)]
        simp only [he]
      · rw [h2, if_pos (Fin.ext he)]
        simp only [he]
    · refine ⟨?_, fun d => ?_⟩
      · rw [h1, if_neg (fun h => he (congrArg Fin.val h))]
        exact (ih (by omega) (by omega)).1
      · rw [h2, if_neg (fun h => he (congrArg Fin.val h))]
        exact (ih (by omega) (by omega)).2 d

include hcx hcy hpos hanti in
/-- The reference's result: row `r` is the `r`-th box of the greedy selection and its score. -/
theorem result_at (r : Fin 500) (d : Fin 5) :
    (Wend m c (Proc.devRef .tc main_v13) : FVec Ideal S500x5 .f32) (ix2 r d)
      = if h : d.val < 4 then
          boxOf m c (ix2 ⟨Greedy.pick (KernelIdeal.Close cx cy) 2000 r, Greedy.pick_lt (by omega) r⟩ ⟨d.val, h⟩)
        else valsOf m c (ix1 ⟨Greedy.pick (KernelIdeal.Close cx cy) 2000 r, Greedy.pick_lt (by omega) r⟩) := by
  have h := cond_kept (Wk m 500 c)
  obtain ⟨h1, h2⟩ := rows hcx hcy hpos hanti 500 (le_refl _) r r.isLt
  have e : (Wend m c (Proc.devRef .tc main_v13) : FVec Ideal S500x5 .f32)
      = concatenate S500x5 1 [⟨S500x4, boxesOf m c 500⟩,
          ⟨S500x1, broadcastInDim S500x1 ![0] bcast_S500_S500x1_0 (scoresOf m c 500)⟩]
          concatenates_S500x4_S500x1_S500x5_d1 := by
    show afterL postI (after condOps (Wk m 500 c)) (Proc.devRef .tc main_v13) = _
    rw [post_result, h.2.2.2.2.2.1, h.2.2.2.2.2.2]
    rfl
  rw [e]
  pointwise
  by_cases hd : d.val < 4
  · rw [dif_pos hd, dif_pos hd]
    exact h2 _
  · rw [dif_neg hd, dif_neg hd]
    exact h1

end rows

end Cert.Proof.Reference
-- ==== Proof.Math.Blocks.lean ====
module

public import proofs.«01_k».proof.Proof.Math.Payload

/-! The kernel's two loops over the extended reals: the inner loop ends at the block's greedy suppression, and the block
    loop's state follows the greedy choice block by block. -/

@[expose] public section

set_option maxRecDepth 16384

noncomputable section

namespace Cert.Proof.KernelIdeal

open Cert.KernelIdeal Cert.KernelIdeal.Gen
open Idealize.ShloMosaic Idealize.ShloMosaic.TcCoe
open Cert.Proof.Ind

/-- The loop visits sixteen blocks. -/
theorem trips_eq : k0_t1_loop.trips = 16 := by decide

/-- Where a block of a column starts. -/
theorem off1_eq (k : Fin k0_t1_loop.trips) : k0_off1 k 0 = 128 * k.val ∧ k0_off1 k 1 = 0 := by
  revert k; decide

/-- Where a block of a row starts. -/
theorem off2_eq (k : Fin k0_t1_loop.trips) : k0_off2 k 0 = 0 ∧ k0_off2 k 1 = 128 * k.val := by
  revert k; decide

/-- A lane of block `k`. -/
def lane (k : Fin k0_t1_loop.trips) (i : Fin 128) : Fin 2048 := ⟨128 * k.val + i.val, by have h := lt_of_lt_of_eq k.isLt trips_eq; omega⟩

/-- An entry of a block of a column. -/
theorem blkC_at (k : Fin k0_t1_loop.trips) (f : Vec Ideal S2048x1 .f32) (i : Fin 128) : blkC k f (ix2 i 0) = f (ix2 (lane k i) 0) := by
  pointwise [blkC]
  refine congrArg f (congrArg₂ ix2 ?_ ?_)
  · exact Fin.ext (by show k0_off1 k 0 + i.val = 128 * k.val + i.val; rw [(off1_eq k).1])
  · exact Fin.ext (off1_eq k).2

/-- An entry of a block of a row. -/
theorem blkR_at (k : Fin k0_t1_loop.trips) (f : Vec Ideal S1x2048 .f32) (i : Fin 128) : blkR k f (ix2 0 i) = f (ix2 0 (lane k i)) := by
  pointwise [blkR]
  refine congrArg f (congrArg₂ ix2 ?_ ?_)
  · exact Fin.ext (off2_eq k).1
  · exact Fin.ext (by show k0_off2 k 1 + i.val = 128 * k.val + i.val; rw [(off2_eq k).2])

/-- An entry of a row after one of its blocks was replaced. -/
theorem putR_at (k : Fin k0_t1_loop.trips) (w : Vec Ideal S1x128 .f32) (f : Vec Ideal S1x2048 .f32) (j : Fin 2048) :
    putR k w f (ix2 0 j) = if h : 128 * k.val ≤ j.val ∧ j.val < 128 * (k.val + 1) then w (ix2 0 ⟨j.val - 128 * k.val, by omega⟩)
      else f (ix2 0 j) := by
  have e : putR k w f = updateSlice f w (k0_off2 k) ⟨rfl, k0_off2_inb k⟩ :=
    View.write_whole_slice_unit cc0_scratch6 (k0_off2 k) S1x128.size (k0_off2_inb k) f w
  rw [e]
  unfold updateSlice
  have h0 := (off2_eq k).1
  have h1 := (off2_eq k).2
  split_ifs with hin hj hj
  · congr 1
    funext a
    match a with
    | 0 => exact Fin.ext (by show 0 - k0_off2 k 0 = 0; omega)
    | 1 => exact Fin.ext (by show j.val - k0_off2 k 1 = j.val - 128 * k.val; rw [h1])
  · have hin1 : k0_off2 k 1 ≤ j.val ∧ j.val < k0_off2 k 1 + 128 := hin 1
    omega
  · refine absurd (fun a => ?_) hin
    match a with
    | 0 => show k0_off2 k 0 ≤ 0 ∧ 0 < k0_off2 k 0 + 1; omega
    | 1 => show k0_off2 k 1 ≤ j.val ∧ j.val < k0_off2 k 1 + 128; omega
  · rfl

/-! ## The inner loop -/

section Inner

variable {l u : Vec Ideal S128x128 .f32} {ec : Vec Ideal S128x1 .f32} {er : Vec Ideal S1x128 .f32}
variable {D : ℕ → ℕ → Prop} {E f : ℕ → Prop}

/-- The loop's vectors are zero-one, the closeness is symmetric, and `f` is the block's greedy suppression. -/
structure BlockData (l u : Vec Ideal S128x128 .f32) (ec : Vec Ideal S128x1 .f32) (er : Vec Ideal S1x128 .f32)
    (D : ℕ → ℕ → Prop) (E f : ℕ → Prop) : Prop where
  hl : ∀ i j : Fin 128, l (ix2 i j) = ind (D i j ∧ j.val < i.val)
  hu : ∀ i j : Fin 128, u (ix2 i j) = ind (D i j ∧ i.val < j.val)
  hc : ∀ i : Fin 128, ec (ix2 i 0) = ind (E i)
  hr : ∀ j : Fin 128, er (ix2 0 j) = ind (E j)
  symm : ∀ i j, D i j ↔ D j i
  hf : ∀ j < 128, f j ↔ E j ∨ ∃ i < j, D i j ∧ ¬ f i

/-- The state holds zero-one vectors that agree with `f` on the first `t` lanes. -/
structure Agree (f : ℕ → Prop) (t : ℕ) (s : WS Ideal) : Prop where
  ex : ∃ A B : ℕ → Prop, (∀ j : Fin 128, s.1 (ix2 0 j) = ind (A j)) ∧ (∀ i : Fin 128, s.2.1 (ix2 i 0) = ind (B i))
    ∧ ∀ j < t, j < 128 → (A j ↔ f j) ∧ (B j ↔ f j)

/-- One step of a block's iteration, as statements about the candidates. -/
theorem next_spec (h : BlockData l u ec er D E f) {A : ℕ → Prop} {s : WS Ideal} (hA : ∀ j : Fin 128, s.1 (ix2 0 j) = ind (A j)) :
    (∀ i : Fin 128, (wlNext l ec u er s).2.1 (ix2 i 0) = ind (E i ∨ ∃ j < i.val, D j i ∧ ¬ A j))
    ∧ ∀ j : Fin 128, (wlNext l ec u er s).1 (ix2 0 j)
        = ind (E j ∨ ∃ i < j.val, D i j ∧ ¬ (E i ∨ ∃ j < i, D j i ∧ ¬ A j)) := by
  have h1 : ∀ i : Fin 128, k0_pay1 l ec s.1 (ix2 i 0) = ind (E i ∨ ∃ j < i.val, D j i ∧ ¬ A j) := by
    intro i
    rw [pay1_at (L := fun i j => D i j ∧ j < i) h.hl h.hc hA i]
    refine ind_congr (or_congr Iff.rfl ⟨fun ⟨j, hj, ha⟩ => ⟨j, hj.2, (h.symm _ _).1 hj.1, ha⟩,
      fun ⟨j, hj, hd, ha⟩ => ⟨⟨j, hj.trans i.isLt⟩, ⟨(h.symm _ _).1 hd, hj⟩, ha⟩⟩)
  refine ⟨h1, fun j => ?_⟩
  refine (pay2_at (U := fun i j => D i j ∧ i < j) (B := fun i => E i ∨ ∃ j < i, D j i ∧ ¬ A j) h.hu h1 h.hr j).trans ?_
  exact ind_congr (or_congr Iff.rfl ⟨fun ⟨i, hi, ha⟩ => ⟨i, hi.2, hi.1, ha⟩,
    fun ⟨i, hi, hd, ha⟩ => ⟨⟨i, hi.trans j.isLt⟩, ⟨hd, hi⟩, ha⟩⟩)

/-- A step of the iteration extends the agreement with the solution by one candidate. -/
theorem next_agree (h : BlockData l u ec er D E f) {t : ℕ} {s : WS Ideal} (hs : Agree f t s) :
    Agree f (t + 1) (wlNext l ec u er s) := by
  obtain ⟨A, B, hA, _, hAB⟩ := hs.ex
  obtain ⟨h2, h1⟩ := next_spec h hA
  have hB' : ∀ i < t + 1, i < 128 → ((E i ∨ ∃ j < i, D j i ∧ ¬ A j) ↔ f i) := by
    intro i hi hi'
    rw [h.hf i hi']
    exact or_congr Iff.rfl (exists_congr fun j => and_congr_right fun hj => and_congr Iff.rfl
      (not_congr (hAB j (by omega) (by omega)).1))
  refine ⟨⟨fun j => E j ∨ ∃ i < j, D i j ∧ ¬ (E i ∨ ∃ j < i, D j i ∧ ¬ A j), fun i => E i ∨ ∃ j < i, D j i ∧ ¬ A j, h1, h2,
    fun j hj hj' => ⟨?_, hB' j hj hj'⟩⟩⟩
  show (E j ∨ ∃ i < j, D i j ∧ ¬ (E i ∨ ∃ j < i, D j i ∧ ¬ A j)) ↔ f j
  rw [h.hf j hj']
  exact or_congr Iff.rfl (exists_congr fun i => and_congr_right fun hi => and_congr Iff.rfl
    (not_congr (hB' i (by omega) (by omega))))

/-- A round that changes nothing was at the greedy suppression already. -/
theorem fixed_agree (h : BlockData l u ec er D E f) {s : WS Ideal} (hs : Agree f 0 s)
    (h1 : ∀ j : Fin 128, (wlNext l ec u er s).1 (ix2 0 j) = s.1 (ix2 0 j))
    (h2 : ∀ i : Fin 128, (wlNext l ec u er s).2.1 (ix2 i 0) = s.2.1 (ix2 i 0)) : Agree f 128 (wlNext l ec u er s) := by
  obtain ⟨A, B, hA, hB, _⟩ := hs.ex
  obtain ⟨e2, e1⟩ := next_spec h hA
  have hBA : ∀ i, i < 128 → (B i ↔ E i ∨ ∃ j < i, D j i ∧ ¬ A j) := fun i hi =>
    ind_inj.1 ((hB ⟨i, hi⟩).symm.trans ((h2 ⟨i, hi⟩).symm.trans (e2 ⟨i, hi⟩)))
  have hAA : ∀ j, j < 128 → (A j ↔ E j ∨ ∃ i < j, D i j ∧ ¬ (E i ∨ ∃ j < i, D j i ∧ ¬ A j)) := fun j hj =>
    ind_inj.1 ((hA ⟨j, hj⟩).symm.trans ((h1 ⟨j, hj⟩).symm.trans (e1 ⟨j, hj⟩)))
  have hall : ∀ j, j < 128 → (A j ↔ f j) ∧ (B j ↔ f j) := by
    intro j
    induction j using Nat.strong_induction_on with
    | _ j ih =>
      intro hj
      constructor
      · rw [hAA j hj, h.hf j hj]
        exact or_congr Iff.rfl (exists_congr fun i => and_congr_right fun hi => and_congr Iff.rfl
          (not_congr ((hBA i (by omega)).symm.trans (ih i hi (by omega)).2)))
      · rw [hBA j hj, h.hf j hj]
        exact or_congr Iff.rfl (exists_congr fun i => and_congr_right fun hi => and_congr Iff.rfl
          (not_congr (ih i hi (by omega)).1))
  exact ⟨⟨A, B, fun j => (h1 j).trans (hA j), fun i => (h2 i).trans (hB i), fun j _ hj => hall j hj⟩⟩

/-- The flag the round leaves: set, or nothing changed. -/
theorem next_flag (l u : Vec Ideal S128x128 .f32) (ec : Vec Ideal S128x1 .f32) (er : Vec Ideal S1x128 .f32) (s : WS Ideal) :
    (wlNext l ec u er s).2.2.2 = 1#1 ∨ (∀ j : Fin 128, (wlNext l ec u er s).1 (ix2 0 j) = s.1 (ix2 0 j))
      ∧ ∀ i : Fin 128, (wlNext l ec u er s).2.1 (ix2 i 0) = s.2.1 (ix2 i 0) := by
  have hor : (∀ b : Bool, BitVec.ofBool true ||| BitVec.ofBool b = 1#1) ∧ ∀ b : Bool, BitVec.ofBool b ||| BitVec.ofBool true = 1#1 := by
    decide
  have e3 := pay3_at l u ec er s.1
  have e4 := pay4_at l ec s.1 s.2.1
  have hflag : (wlNext l ec u er s).2.2.2 = BitVec.ofBool (decide (Ideal.ofBits .f32 0#32 < k0_pay3 l ec u er s.1))
      ||| BitVec.ofBool (decide (Ideal.ofBits .f32 0#32 < k0_pay4 l ec s.1 s.2.1)) := rfl
  rw [hflag, e3, e4, Ideal.ofBits_zero_f32]
  by_cases h3 : ∃ j : Fin 128, k0_pay2 l ec u er s.1 (ix2 0 j) ≠ s.1 (ix2 0 j)
  · left
    rw [decide_eq_true ((ind_pos_iff _).2 h3)]
    exact hor.1 _
  · by_cases h4 : ∃ i : Fin 128, k0_pay1 l ec s.1 (ix2 i 0) ≠ s.2.1 (ix2 i 0)
    · left
      rw [decide_eq_true ((ind_pos_iff _).2 h4)]
      exact hor.2 _
    · right
      push Not at h3 h4
      exact ⟨h3, h4⟩

/-- The inner loop ends at the greedy suppression. -/
theorem wl_agree (h : BlockData l u ec er D E f) (n : ℕ) {t : ℕ} (hn : t + n = 132) {s : WS Ideal} (hit : s.2.2.1 = BitVec.ofNat 32 t)
    (hs : Agree f t s) (hflag : s.2.2.2 = 1#1 ∨ Agree f 128 s) : Agree f 128 (wl l ec u er n s) := by
  have mono : ∀ {t t' : ℕ} {s : WS Ideal}, t' ≤ t → Agree f t s → Agree f t' s := fun htt hs => by
    obtain ⟨A, B, hA, hB, hAB⟩ := hs.ex
    exact ⟨⟨A, B, hA, hB, fun j hj hj' => hAB j (by omega) hj'⟩⟩
  induction n generalizing t s with
  | zero => exact mono (by omega) hs
  | succ n ih =>
    rw [wl]
    split_ifs with hgo
    · refine ih (t := t + 1) (by omega) ?_ (next_agree h hs) ?_
      · show s.2.2.1 + 1#32 = _
        rw [hit, BitVec.ofNat_add]
      · rcases next_flag l u ec er s with hfl | ⟨h1, h2⟩
        · exact .inl hfl
        · exact .inr (fixed_agree h (mono (Nat.zero_le t) hs) h1 h2)
    · rcases hflag with hfl | hdone
      · exfalso
        apply hgo
        have hlt : (Scalar.cmpi .slt s.2.2.1 132#32) = 1#1 := by
          rw [hit]
          show BitVec.ofBool ((BitVec.ofNat 32 t).slt (BitVec.ofNat 32 132)) = 1#1
          rw [BitVec.slt_eq_decide, toInt_word (by omega), toInt_word (by omega), decide_eq_true (by omega)]
          rfl
        rw [wlGo, hlt, hfl]
        rfl
      · exact hdone

end Inner

/-! ## The block loop -/

section BlockLoop

variable {cxr cyr : Vec Ideal S1x2048 .f32} {cxc cyc : Vec Ideal S2048x1 .f32} {cx cy : ℕ → EReal}

/-- The block loop's state is zero-one: suppression (along lanes and rows alike) and keeping. -/
structure Holds (s : BS Ideal) (sup keep : ℕ → Prop) : Prop where
  row : ∀ j : Fin 2048, s.1 (ix2 0 j) = ind (sup j)
  col : ∀ j : Fin 2048, s.2.1 (ix2 j 0) = ind (sup j)
  kp : ∀ j : Fin 2048, s.2.2 (ix2 0 j) = ind (keep j)

/-- The greedy suppression of a block, by recursion along it. -/
def blockFix (D : ℕ → ℕ → Prop) (E : ℕ → Prop) (j : ℕ) : Prop := E j ∨ ∃ i : ℕ, ∃ _ : i < j, D i j ∧ ¬ blockFix D E i
termination_by j

/-- The recursion that defines the fixed point of a block. -/
theorem blockFix_iff (D : ℕ → ℕ → Prop) (E : ℕ → Prop) (j : ℕ) : blockFix D E j ↔ E j ∨ ∃ i < j, D i j ∧ ¬ blockFix D E i := by
  rw [blockFix]
  simp only [exists_prop]

open Classical in
/-- A block that is not skipped: the new state is what the greedy choice makes of the block. -/
theorem tripGo_holds (hxr : ∀ j : Fin 2048, cxr (ix2 0 j) = cx j) (hyr : ∀ j : Fin 2048, cyr (ix2 0 j) = cy j)
    (hxc : ∀ j : Fin 2048, cxc (ix2 j 0) = cx j) (hyc : ∀ j : Fin 2048, cyc (ix2 j 0) = cy j)
    (k : Fin k0_t1_loop.trips) {s : BS Ideal} {sup keep : ℕ → Prop} (h : Holds s sup keep) {f : ℕ → Prop}
    (hf : ∀ j < 128, f j ↔ sup (128 * k + j) ∨ ∃ i < j, Close cx cy (128 * k + i) (128 * k + j) ∧ ¬ f i) :
    Holds (tripGo cxr cyr cxc cyc k s) (fun j => sup j ∨ ∃ i < 128, ¬ f i ∧ Close cx cy (128 * k + i) j)
      (fun j => if 128 * k.val ≤ j ∧ j < 128 * (k.val + 1) then ¬ f (j - 128 * k) else keep j) := by
  have bd : BlockData (k0_pay7 k0_pay23 (blkC k cxc) (blkC k cyc) (blkR k cxr) (blkR k cyr))
      (k0_pay6 k0_pay22 (blkC k cxc) (blkC k cyc) (blkR k cxr) (blkR k cyr)) (blkC k s.2.1) (blkR k s.1)
      (fun i j => Close cx cy (128 * k + i) (128 * k + j)) (fun j => sup (128 * k + j)) f :=
    { hl := fun i j => (pay7_at _ _ _ _ i j).trans (by simp only [blkC_at, blkR_at, hxc, hyc, hxr, hyr]; rfl)
      hu := fun i j => (pay6_at _ _ _ _ i j).trans (by simp only [blkC_at, blkR_at, hxc, hyc, hxr, hyr]; rfl)
      hc := fun i => (blkC_at k _ i).trans (h.col (lane k i))
      hr := fun j => (blkR_at k _ j).trans (h.row (lane k j))
      symm := fun i j => close_comm
      hf := hf }
  have hin : Agree f 128 (inner cxr cyr cxc cyc k s) :=
    wl_agree bd 132 (t := 0) rfl rfl ⟨⟨fun j => sup (128 * k + j), fun j => sup (128 * k + j), bd.hr, bd.hc,
      fun j hj => absurd hj (Nat.not_lt_zero _)⟩⟩ (.inl rfl)
  obtain ⟨A, B, hA, hB, hAB⟩ := hin.ex
  refine ⟨fun j => ?_, fun j => ?_, fun j => ?_⟩
  · refine (pay12_at (A := fun i => ¬ B i) h.row (pay10_at hB) j).trans (ind_congr (or_congr Iff.rfl ?_))
    simp only [blkC_at, hxc, hyc, hxr, hyr]
    exact ⟨fun ⟨i, hn, hb⟩ => ⟨i, i.isLt, fun hfi => hb ((hAB i i.isLt i.isLt).2.2 hfi), hn⟩,
      fun ⟨i, hi, hb, hn⟩ => ⟨⟨i, hi⟩, hn, fun hfi => hb ((hAB i hi hi).2.1 hfi)⟩⟩
  · refine (pay13_at (A := fun i => ¬ A i) h.col (pay8_at hA) j).trans (ind_congr (or_congr Iff.rfl ?_))
    simp only [blkR_at, hxc, hyc, hxr, hyr]
    exact ⟨fun ⟨i, hn, hb⟩ => ⟨i, i.isLt, fun hfi => hb ((hAB i i.isLt i.isLt).1.2 hfi), near_comm.1 hn⟩,
      fun ⟨i, hi, hb, hn⟩ => ⟨⟨i, hi⟩, near_comm.1 hn, fun hfi => hb ((hAB i hi hi).1.1 hfi)⟩⟩
  · refine (putR_at k _ _ j).trans ?_
    split_ifs with hj
    · refine (pay9_at hA ⟨j.val - 128 * k.val, by omega⟩).trans (ind_congr ?_)
      exact not_congr (hAB _ (by omega) (by omega)).1
    · exact h.kp j

open Classical in
/-- The block loop follows the greedy choice. -/
theorem bst_holds (hxr : ∀ j : Fin 2048, cxr (ix2 0 j) = cx j) (hyr : ∀ j : Fin 2048, cyr (ix2 0 j) = cy j)
    (hxc : ∀ j : Fin 2048, cxc (ix2 j 0) = cx j) (hyc : ∀ j : Fin 2048, cyc (ix2 j 0) = cy j) (n : ℕ) (hn : n ≤ 16) :
    ∃ sup keep : ℕ → Prop, Holds (bst cxr cyr cxc cyc n) sup keep ∧ Greedy.After (Close cx cy) 2000 128 500 2048 n sup keep := by
  induction n with
  | zero =>
    exact ⟨fun j => 2000 ≤ j, fun _ => False, ⟨pay19_at, pay20_at, pay21_at⟩,
      Greedy.After.zero (fun _ _ => Iff.rfl) (fun _ _ h => h)⟩
  | succ n ih =>
    obtain ⟨sup, keep, hh, ha⟩ := ih (by omega)
    have hlt : n < k0_t1_loop.trips := by rw [trips_eq]; omega
    rw [bst, dif_pos hlt, trip]
    by_cases hfew : Nat.count keep 2048 < 500
    · rw [if_pos ((few_at hh.kp).2 hfew)]
      refine ⟨_, _, tripGo_holds hxr hyr hxc hyc ⟨n, hlt⟩ hh
        (f := blockFix (fun i j => Close cx cy (128 * n + i) (128 * n + j)) (fun j => sup (128 * n + j)))
        (fun j _ => blockFix_iff _ _ j), ?_⟩
      exact ha.step hfew (by omega) (fun j _ => blockFix_iff _ _ j) (fun j _ => Iff.rfl) (fun j _ => Iff.rfl)
    · rw [if_neg fun h => hfew ((few_at hh.kp).1 h)]
      exact ⟨sup, keep, hh, ha.skip (not_lt.1 hfew)⟩

end BlockLoop

end Cert.Proof.KernelIdeal

end
-- ==== Proof.Math.Rows.lean ====
module

public import proofs.«01_k».proof.Proof.Math.Blocks

/-! The kernel's output rows over the extended reals: row `r` is the candidate picked `r`-th, box and score. -/

@[expose] public section

set_option maxRecDepth 16384

noncomputable section

namespace Cert.Proof.KernelIdeal

open Cert.KernelIdeal Cert.KernelIdeal.Gen
open Idealize.ShloMosaic Idealize.ShloMosaic.TcCoe
open Cert.Proof.Ind

/-- A candidate's box and score as five numbers. -/
def cand (bx : Vec Ideal S2048x4 .f32) (sc : Vec Ideal S2048x1 .f32) (x : Fin 2048) (c : Fin 5) : EReal :=
  if h : c.val < 4 then bx (ix2 x ⟨c.val, h⟩) else sc (ix2 x 0)

/-- A choice under two conditions is a product with their indicator. -/
theorem select_ind (p q : Prop) [Decidable p] [Decidable q] (d : EReal) :
    Scalar.select (IntOp.andi (BitVec.ofBool (decide p)) (BitVec.ofBool (decide q))) d 0 = ind (p ∧ q) * d := by
  by_cases hp : p <;> by_cases hq : q <;> simp [hp, hq, ind, Scalar.select, IntOp.andi]

/-- The output at a row and a column, before its meaning is read. -/
theorem pay26_at {v : Vec Ideal S1x2048 .f32} (bx : Vec Ideal S2048x4 .f32) (sc : Vec Ideal S2048x1 .f32) {K : ℕ → Prop}
    [DecidablePred K] (hv : ∀ j : Fin 2048, v (ix2 0 j) = ind (K j)) (r : Fin 500) (c : Fin 5) :
    k0_pay26 v bx sc (ix2 r c)
      = (∑ x : Fin 2048, ind (K x ∧ Nat.count K x = r.val) * cand bx sc x c)
        + ind (Nat.count K 2048 ≤ r.val) * ∑ x : Fin 2048, ind (K x ∧ Nat.count K x = 0) * cand bx sc x c := by
  have hrank : ∀ (x : Fin 2048) (n : ℕ), (n < 2 ^ 31) →
      ((∑ y : Fin 2048, v (ix2 0 y) * (FloatOps.sitofp .f32 (BitVec.setWidth 32 (IntOp.cmpi CmpIPredicate.slt
        (BitVec.ofNat 32 y.val) (BitVec.ofNat 32 x.val))) : Ideal .f32) = (FloatOps.sitofp .f32 (BitVec.ofNat 32 n) : Ideal .f32))
        ↔ Nat.count K x = n) := by
    intro x n hn
    have e : ∀ y : Fin 2048, v (ix2 0 y) * (FloatOps.sitofp .f32 (BitVec.setWidth 32 (IntOp.cmpi CmpIPredicate.slt
        (BitVec.ofNat 32 y.val) (BitVec.ofNat 32 x.val))) : Ideal .f32) = ind (K y) * ind (y.val < x.val) := fun y =>
      congrArg₂ (· * ·) (hv y) (sitofp_slt (by omega) (by omega))
    rw [Finset.sum_congr rfl fun y _ => e y, sitofp_nat hn]
    refine Iff.trans (Eq.congr (sum_ind_lt K x.isLt.le) rfl) ?_
    constructor
    · intro h
      have h' : Nat.count K x = n := by
        have := h
        norm_cast at this
        convert this
      exact h'
    · intro h
      rw [← h]
      congr
  have hcand : ∀ x : Fin 2048, (if h : c.val < 4 then bx (ix2 x ⟨c.val, h⟩) else sc (ix2 x ⟨c.val - 4, by omega⟩))
      = cand bx sc x c := by
    intro x
    unfold cand
    split_ifs
    · rfl
    · exact congrArg sc (congrArg (ix2 x) (Subsingleton.elim _ _))
  have hhalf : ∀ x : Fin 2048, (Ideal.ofBits .f32 1056964608#32 < v (ix2 0 x)) ↔ K x := fun x => by
    rw [hv]; exact half_lt_ind _
  pointwise [k0_pay26]
  refine congrArg₂ (· + ·) (Finset.sum_congr rfl fun x _ => ?_) (congrArg₂ (· * ·) ?_ (Finset.sum_congr rfl fun x _ => ?_))
  · refine (select_ind _ _ _).trans (congrArg₂ (· * ·) (ind_congr ?_) (hcand x))
    exact ⟨fun h => ⟨(hhalf x).1 h.2, (hrank x r.val (by omega)).1 h.1⟩, fun h => ⟨(hrank x r.val (by omega)).2 h.2, (hhalf x).2 h.1⟩⟩
  · refine (sitofp_decide _).trans (ind_congr ?_)
    rw [Fintype.sum_unique, Finset.sum_congr rfl fun x _ => hv x, sitofp_nat (by omega)]
    refine Iff.trans (iff_of_eq (congrArg (· ≤ _) (sum_ind K 2048))) ?_
    norm_cast
    convert Iff.rfl
  · refine (select_ind _ _ _).trans (congrArg₂ (· * ·) (ind_congr ?_) (hcand x))
    exact ⟨fun h => ⟨(hhalf x).1 h.2, (hrank x 0 (by omega)).1 h.1⟩, fun h => ⟨(hrank x 0 (by omega)).2 h.2, (hhalf x).2 h.1⟩⟩

open Classical in
/-- The kernel's output row `r` is the `r`-th pick's box and score. -/
theorem out_row {v : Vec Ideal S1x2048 .f32} (bx : Vec Ideal S2048x4 .f32) (sc : Vec Ideal S2048x1 .f32) {C : ℕ → ℕ → Prop}
    {sup keep : ℕ → Prop} (hv : ∀ j : Fin 2048, v (ix2 0 j) = ind (keep j)) (ha : Greedy.After C 2000 128 500 2048 16 sup keep)
    (r : Fin 500) (c : Fin 5) :
    k0_pay26 v bx sc (ix2 r c) = cand bx sc ⟨Greedy.pick C 2000 r, by have := Greedy.pick_lt (C := C) (N := 2000) (by omega) r.val; omega⟩ c := by
  have hpick : ∀ n < 500, ∀ x : Fin 2048, (keep x ∧ Nat.count keep x = n) ↔ Greedy.IsPick C 2000 n x := fun n hn x =>
    ⟨fun h => (ha.isPick_iff rfl (by omega) hn x).1 ⟨x.isLt, h⟩, fun h => ((ha.isPick_iff rfl (by omega) hn x).2 h).2⟩
  have hrow : ∀ n < 500, ∀ j : Fin 2048, Greedy.IsPick C 2000 n j →
      ∑ x : Fin 2048, ind (keep x ∧ Nat.count keep x = n) * cand bx sc x c = cand bx sc j c := by
    intro n hn j hj
    refine sum_ind_mul _ _ j fun x => (hpick n hn x).trans ⟨fun h => Fin.ext (Greedy.isPick_unique h hj), fun h => ?_⟩
    rw [h]; exact hj
  rw [pay26_at bx sc hv r c]
  by_cases hex : ∃ j, Greedy.IsPick C 2000 r j
  · obtain ⟨j, hj⟩ := hex
    have hjL : j < 2048 := ((ha.isPick_iff rfl (by omega) r.isLt j).2 hj).1
    have hlt : ¬ Nat.count keep 2048 ≤ r.val := not_le.2 ((ha.exists_iff rfl (by omega) r.isLt).1 ⟨j, hj⟩)
    rw [hrow r r.isLt ⟨j, hjL⟩ hj, ind_false hlt, zero_mul, add_zero]
    congr 1
    exact Fin.ext (Greedy.pick_eq hj).symm
  · have hle : Nat.count keep 2048 ≤ r.val := by
      by_contra hlt
      exact hex ((ha.exists_iff rfl (by omega) r.isLt).2 (not_le.1 hlt))
    rw [sum_ind_none _ _ fun x h => hex ⟨x, (hpick r r.isLt x).1 h⟩, ind_true hle, one_mul, zero_add,
      hrow 0 (by omega) ⟨0, by omega⟩ (Greedy.pick_zero (by omega))]
    congr 1
    exact Fin.ext (Greedy.pick_none hex).symm

end Cert.Proof.KernelIdeal

end
-- ==== Proof.Math.Sorted.lean ====
module

public import proofs.«01_k».proof.Proof.Math.Ind
public import proofs.«01_k».proof.Pre_scores_above_minus_infinity
public import Idealize.ShloMosaic.Lib.SortFacts
public import Idealize.ShloMosaic.Lib.ReduceAll

/-! The greatest scores in falling order, and what the precondition says of them. -/

@[expose] public section

set_option maxRecDepth 16384

noncomputable section

namespace Cert.Proof.Sorted

open Idealize.ShloMosaic Idealize.ShloMosaic.TcCoe
open Cert.Proof.Ind

/-- The comparison of scores: one exactly where the first is the greater. -/
theorem gt_eq_one (a b : Ideal .f32) : FloatOps.cmpfTotal (F := Ideal) (φ := .f32) .gt a b = 1#1 ↔ (b : EReal) < a := by
  rw [Ideal.cmpfTotal_def]
  by_cases h : (b : EReal) < a <;> simp [Ideal.cmp, CmpDirection.ordered, h]

/-- Where the sort takes each of the greatest scores from. -/
def source (x : FVec Ideal ⟨1, ![20000]⟩ .f32) (k : Fin 20000) : Fin 20000 :=
  sortedFrom (fun a b => FloatOps.cmpfTotal (F := Ideal) (φ := .f32) .gt (x (ix1 a)) (x (ix1 b)) == 1#1) k

/-- A greatest score is one of the scores. -/
theorem topK_at (x : FVec Ideal ⟨1, ![20000]⟩ .f32) (h : (⟨1, ![20000]⟩ : Shape).Slices (fun _ => 0) ⟨1, ![2000]⟩) (k : Fin 2000) :
    (Host.topK ⟨1, ![2000]⟩ 0 (FloatOps.cmpfTotal (F := Ideal) (φ := .f32) .gt) x h).1 (ix1 k)
      = x (ix1 (source x ⟨k.val, by omega⟩)) := by
  have hal : ∀ (j : (⟨1, ![20000]⟩ : Shape).Idx) (a : Fin 20000), Shape.Idx.along j 0 a = ix1 a := fun j a => by
    funext d
    match d with
    | ⟨0, _⟩ => exact Function.update_self ..
  have hj : ∀ (f g : Fin 20000 → Fin 20000 → Bool) (a b : Fin 20000), f = g → a = b → sortedFrom f a = sortedFrom g b := by
    rintro _ _ _ _ rfl rfl; rfl
  unfold Host.topK
  dsimp only
  unfold Host.sort2 extractStridedSlice
  rw [dif_pos (show 0 < (⟨1, ![20000]⟩ : Shape).rank from Nat.one_pos)]
  dsimp only
  refine congrArg x ((hal _ _).trans (congrArg ix1 ?_))
  unfold source
  refine hj _ _ _ _ ?_ ?_
  · funext a b
    exact congrArg₂ (fun p q => FloatOps.cmpfTotal (F := Ideal) (φ := .f32) .gt (x p) (x q) == 1#1) (hal _ a) (hal _ b)
  · exact Fin.ext (by simp)

/-- The greatest scores fall. -/
theorem topK_anti (x : FVec Ideal ⟨1, ![20000]⟩ .f32) (h : (⟨1, ![20000]⟩ : Shape).Slices (fun _ => 0) ⟨1, ![2000]⟩)
    (i j : Fin 2000) (hij : i ≤ j) :
    ((Host.topK ⟨1, ![2000]⟩ 0 (FloatOps.cmpfTotal (F := Ideal) (φ := .f32) .gt) x h).1 (ix1 j) : EReal)
      ≤ (Host.topK ⟨1, ![2000]⟩ 0 (FloatOps.cmpfTotal (F := Ideal) (φ := .f32) .gt) x h).1 (ix1 i) := by
  rcases lt_or_eq_of_le hij with hl | rfl
  swap
  · exact le_refl _
  rw [topK_at, topK_at]
  have hb : ∀ a b : Fin 20000, (FloatOps.cmpfTotal (F := Ideal) (φ := .f32) .gt (x (ix1 a)) (x (ix1 b)) == 1#1) = false
      ↔ (x (ix1 a) : EReal) ≤ x (ix1 b) := fun a b => by
    rw [beq_eq_false_iff_ne, ne_eq, gt_eq_one, not_lt]
  have := sortedFrom_noInversion
    (fun a b : Fin 20000 => FloatOps.cmpfTotal (F := Ideal) (φ := .f32) .gt (x (ix1 a)) (x (ix1 b)) == 1#1)
    (fun a b : Fin 20000 => FloatOps.cmpfTotal (F := Ideal) (φ := .f32) .gt (x (ix1 a)) (x (ix1 b)) == 1#1)
    (fun a b hab => (hb b a).2 (le_of_lt ((gt_eq_one _ _).1 (beq_iff_eq.1 hab))))
    (fun _ _ hab => hab)
    (fun a b c h1 h2 => (hb a c).2 (le_trans ((hb a b).1 h1) ((hb b c).1 h2)))
    (⟨i.val, by omega⟩ : Fin 20000) ⟨j.val, by omega⟩ hl
  exact (hb _ _).1 this

/-- The precondition: every score is above minus infinity. -/
theorem above [Cert.Pre_scores_above_minus_infinity.Facts] (b : FVec Ideal ⟨2, ![20000, 4]⟩ .f32)
    (x : FVec Ideal ⟨1, ![20000]⟩ .f32)
    (h : Cert.Pre_scores_above_minus_infinity.fn (F := Ideal) b x = fun _ => 1#1) (i : Fin 20000) : (⊥ : EReal) < x (ix1 i) := by
  have hs : Subsingleton Cert.Pre_scores_above_minus_infinity.S_.Idx := ⟨fun p q => funext fun d => d.elim0⟩
  have := Host.reduce_andi_all _ _ _ _ ix0 (congrFun h ix0) (ix1 i)
  pointwise at this
  rw [ofBits_neg_inf] at this
  by_contra hc
  simp [Ideal.cmpf_def, Ideal.cmp, hc] at this

/-- Under it, every one of the greatest scores is above minus infinity. -/
theorem topK_above (x : FVec Ideal ⟨1, ![20000]⟩ .f32) (h : (⟨1, ![20000]⟩ : Shape).Slices (fun _ => 0) ⟨1, ![2000]⟩)
    (hx : ∀ i : Fin 20000, (⊥ : EReal) < x (ix1 i)) (k : Fin 2000) :
    (⊥ : EReal) < (Host.topK ⟨1, ![2000]⟩ 0 (FloatOps.cmpfTotal (F := Ideal) (φ := .f32) .gt) x h).1 (ix1 k) := by
  rw [topK_at]
  exact hx _

end Cert.Proof.Sorted
-- ==== Proof.Math.Glue.lean ====
module

public import proofs.«01_k».proof.Proof.KernelIdeal.Run
public import proofs.«01_k».proof.Proof.Math.RefRows
public import proofs.«01_k».proof.Proof.Math.Rows
public import proofs.«01_k».proof.Proof.Math.Sorted

/-! What the operations before the kernel and before the reference's loop prepare, element by element, and that the two
    programs prepare the same. -/

@[expose] public section

set_option maxRecDepth 16384

noncomputable section

namespace Cert.Proof.Glue

open Idealize.ShloMosaic Idealize.ShloMosaic.TcCoe
open Idealize.ShloMosaic.StableHlo
open Cert.Proof.Ind

/-- The memory a kernel run starts from. -/
abbrev KMem := (ℓ : Loc Cert.KernelIdeal.nD Cert.KernelIdeal.τ Cert.KernelIdeal.sig) → Buf (Elt Ideal) ℓ
/-- The memory a reference run starts from. -/
abbrev RMem := (ℓ : Loc Cert.ReferenceIdeal.nD Cert.ReferenceIdeal.τ Cert.ReferenceIdeal.sig) → Buf (Elt Ideal) ℓ

/-- The greatest scores, in falling order. -/
def tops (x : FVec Ideal ⟨1, ![20000]⟩ .f32) : FVec Ideal ⟨1, ![2000]⟩ .f32 :=
  (Host.topK ⟨1, ![2000]⟩ 0 (FloatOps.cmpfTotal (F := Ideal) (φ := .f32) .gt) x Cert.ReferenceIdeal.Gen.sliceFits_S20000_S2000).1

section kernel

open Cert.KernelIdeal Cert.KernelIdeal.Gen

variable (m : KMem) (c : Dev nD)

/-- The kernel's score argument. -/
def scoreArg : FVec Ideal S20000 .f32 := m ((c.tc : Thread nD τ).loc main_arg1)

/-- The candidate boxes the kernel's program takes, in the order of their scores. -/
def taken : FVec Ideal S2000x4 .f32 := Cert.Proof.KernelIdeal.V m c main_v0

/-- The column of scores that the kernel is launched on. -/
theorem v6_eq : (Cert.Proof.KernelIdeal.V m c main_v6 : FVec Ideal S2048x1 .f32)
    = broadcastInDim S2048x1 ![0] bcast_S2048_S2048x1_0 (concatenate S2048 0
        [⟨S2000, tops (scoreArg m c)⟩, ⟨S48, broadcastInDim S48 ![] bcast_S_S48 (constant S_ .f32 0xBF800000#32)⟩]
        concatenates_S2000_S48_S2048_d0) := by
  show (StableHlo.after _ _ (Proc.devRef .tc main_v6)) = _
  after_reads_simp
  refine congrArg₂ (fun a b => broadcastInDim S2048x1 ![0] bcast_S2048_S2048x1_0 (concatenate S2048 0 [⟨S2000, a⟩, ⟨S48, b⟩]
    concatenates_S2000_S48_S2048_d0)) ?_ ?_
  · after_reads_simp
    rfl
  · after_reads_simp

/-- The matrix of boxes that the kernel is launched on. -/
theorem v4_eq : (Cert.Proof.KernelIdeal.V m c main_v4 : FVec Ideal S2048x4 .f32)
    = concatenate S2048x4 0
        [⟨S2000x4, taken m c⟩, ⟨S48x4, broadcastInDim S48x4 ![] bcast_S_S48x4 (constant S_ .f32 0x49742400#32)⟩]
        concatenates_S2000x4_S48x4_S2048x4_d0 := by
  unfold taken
  show (StableHlo.after _ _ (Proc.devRef .tc main_v4)) = concatenate S2048x4 0
        [⟨S2000x4, (StableHlo.after _ _ (Proc.devRef .tc main_v0))⟩, _] _
  after_reads_simp
  rfl

/-- The transposed matrix of boxes that the kernel is launched on. -/
theorem v7_eq : (Cert.Proof.KernelIdeal.V m c main_v7 : FVec Ideal S4x2048 .f32)
    = transpose S4x2048 [1, 0] (Cert.Proof.KernelIdeal.V m c main_v4 : FVec Ideal S2048x4 .f32) transposes_S2048x4_S4x2048_1_0 := by
  show (StableHlo.after _ _ (Proc.devRef .tc main_v7)) = transpose _ _ (StableHlo.after _ _ (Proc.devRef .tc main_v4)) _
  after_reads_simp
  rfl

end kernel

section reference

open Cert.ReferenceIdeal Cert.ReferenceIdeal.Gen

variable (m : RMem) (c : Dev nD)

/-- The reference's selected scores, from its argument. -/
theorem vals_eq : Cert.Proof.Reference.valsOf m c = tops (m ((c.tc : Thread nD τ).loc main_arg1)) := by
  show afterL Cert.Proof.Reference.preI _ _ = _
  rw [afterL_eq_after_flatten]
  after_reads_simp
  rfl

/-- The reference's centres, from its selected boxes. -/
theorem cen_eq : Cert.Proof.Reference.cenOf m c
    = mulf (mulf (addf (extractStridedSlice S2000x2 ![0, 0] (Cert.Proof.Reference.boxOf m c) slices_S2000x4_S2000x2_0_0)
        (extractStridedSlice S2000x2 ![0, 2] (Cert.Proof.Reference.boxOf m c) slices_S2000x4_S2000x2_0_2))
        (broadcastInDim S2000x2 ![] bcast_S_S2000x2 (constant S_ .f32 0x3F000000#32)))
        (broadcastInDim S2000x2 ![] bcast_S_S2000x2 (constant S_ .f32 0x44000000#32)) := by
  unfold Cert.Proof.Reference.cenOf Cert.Proof.Reference.boxOf Cert.Proof.Reference.W0 entryContents
  rw [afterL_eq_after_flatten]
  after_reads_simp
  rfl

end reference

/-- Kernel and reference select the same boxes from equal arguments. -/
theorem taken_eq (m : KMem) (m' : RMem) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.Proof.Reference.boxOf m' c = taken m c := by
  unfold taken Cert.Proof.KernelIdeal.V Cert.Proof.Reference.boxOf Cert.Proof.Reference.W0 entryContents
  rw [afterL_eq_after_flatten]
  after_reads_simp
  rw [show launchContents m' c (Proc.devRef .tc Cert.ReferenceIdeal.main_arg0) = m (c, Proc.devRef .tc Cert.KernelIdeal.main_arg0) from h0,
    show launchContents m' c (Proc.devRef .tc Cert.ReferenceIdeal.main_arg1) = m (c, Proc.devRef .tc Cert.KernelIdeal.main_arg1) from h1]
  rfl

section kernel

open Cert.KernelIdeal Cert.KernelIdeal.Gen Cert.Proof.KernelIdeal

variable (m : KMem) (c : Dev nD)

/-- The padded candidates' scores, as a column. -/
def scCol : FVec Ideal S2048x1 .f32 := V m c main_v6
/-- The padded candidates' boxes. -/
def bxMat : FVec Ideal S2048x4 .f32 := V m c main_v4
/-- The same, transposed. -/
def btMat : FVec Ideal S4x2048 .f32 := V m c main_v7

/-- Within range the padded column of scores holds the selected scores. -/
theorem scCol_at (j : Fin 2048) (hj : j.val < 2000) : scCol m c (ix2 j 0) = tops (scoreArg m c) (ix1 ⟨j.val, hj⟩) := by
  unfold scCol
  rw [v6_eq]
  pointwise
  rw [dif_pos hj]

/-- Within range the padded matrix of boxes holds the selected boxes. -/
theorem bxMat_at (j : Fin 2048) (hj : j.val < 2000) (d : Fin 4) : bxMat m c (ix2 j d) = taken m c (ix2 ⟨j.val, hj⟩ d) := by
  unfold bxMat
  rw [v4_eq]
  pointwise
  rw [dif_pos hj]

/-- The transposed matrix of boxes, entry by entry. -/
theorem btMat_at (j : Fin 2048) (d : Fin 4) : btMat m c (ix2 d j) = bxMat m c (ix2 j d) := by
  unfold btMat bxMat
  rw [v7_eq]
  pointwise

/-- A coordinate of candidate `j`'s center, scaled. -/
def half (d e : Fin 4) (j : ℕ) : EReal :=
  if h : j < 2048 then ((bxMat m c (ix2 ⟨j, h⟩ d) : EReal) + bxMat m c (ix2 ⟨j, h⟩ e)) * Ideal.ofBits .f32 0x43800000#32 else 0

/-- The row of first centre coordinates. -/
theorem cxR_at (j : Fin 2048) : cxR (F := Ideal) (btMat m c) (ix2 0 j) = half m c 0 2 j := by
  unfold cxR k0_pay14 rowOf half
  pointwise
  rw [btMat_at, btMat_at]

/-- The row of second centre coordinates. -/
theorem cyR_at (j : Fin 2048) : cyR (F := Ideal) (btMat m c) (ix2 0 j) = half m c 1 3 j := by
  unfold cyR k0_pay15 rowOf half
  pointwise
  rw [btMat_at, btMat_at]

/-- The column of first centre coordinates. -/
theorem cxC_at (j : Fin 2048) : cxC (F := Ideal) (bxMat m c) (ix2 j 0) = half m c 0 2 j := by
  unfold cxC k0_pay16 colOf half
  pointwise

/-- The column of second centre coordinates. -/
theorem cyC_at (j : Fin 2048) : cyC (F := Ideal) (bxMat m c) (ix2 j 0) = half m c 1 3 j := by
  unfold cyC k0_pay18 k0_pay17 colOf half
  pointwise

/-- The kernel's result: row `r` is the `r`-th box of the greedy selection and its score. -/
theorem kernel_at (r : Fin 500) (d : Fin 5) :
    (result m c : Vec Ideal S500x5 .f32) (ix2 r d)
      = if h : d.val < 4 then
          taken m c (ix2 ⟨Greedy.pick (Close (half m c 0 2) (half m c 1 3)) 2000 r, Greedy.pick_lt (by omega) r⟩ ⟨d.val, h⟩)
        else tops (scoreArg m c)
          (ix1 ⟨Greedy.pick (Close (half m c 0 2) (half m c 1 3)) 2000 r, Greedy.pick_lt (by omega) r⟩) := by
  have hlt := Greedy.pick_lt (C := Close (half m c 0 2) (half m c 1 3)) (N := 2000) (by omega) r.val
  obtain ⟨sup, keep, hh, ha⟩ := bst_holds (cxR_at m c) (cyR_at m c) (cxC_at m c) (cyC_at m c) 16 (le_refl _)
  have e : (result m c : Vec Ideal S500x5 .f32)
      = k0_pay26 (F := Ideal) (bst (cxR (btMat m c)) (cyR (btMat m c)) (cxC (bxMat m c)) (cyC (bxMat m c)) 16).2.2 (bxMat m c) (scCol m c) := by
    unfold result out scCol bxMat btMat
    rw [trips_eq]
  rw [e]
  refine (out_row (bxMat m c) (scCol m c) hh.kp ha r d).trans ?_
  unfold cand
  split
  · next h => exact bxMat_at m c _ hlt _
  · exact scCol_at m c _ hlt

end kernel

/-- Half of a number, 512 times, is the number 256 times. -/
theorem scale (x : EReal) :
    x * Ideal.ofBits .f32 0x3F000000#32 * Ideal.ofBits .f32 0x44000000#32 = x * Ideal.ofBits .f32 0x43800000#32 := by
  rw [mul_assoc]
  congr 1
  have h1 : Ideal.ofBits .f32 0x3F000000#32 = ((1 / 2 : ℝ) : EReal) := by
    simp [Ideal.ofBits, Ideal.ieee, -EReal.coe_mul]; norm_num
  have h2 : Ideal.ofBits .f32 0x44000000#32 = ((512 : ℝ) : EReal) := by
    simp [Ideal.ofBits, Ideal.ieee, -EReal.coe_mul]; norm_num
  have h3 : Ideal.ofBits .f32 0x43800000#32 = ((256 : ℝ) : EReal) := by
    simp [Ideal.ofBits, Ideal.ieee, -EReal.coe_mul]; norm_num
  rw [h1, h2, h3, ← EReal.coe_mul]
  norm_num

section both

variable (m : KMem) (m' : RMem) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))

include h0 h1 in
/-- The reference's centers are the kernel's, first coordinate, -/
theorem cen_x (j : Fin 2000) : Cert.Proof.Reference.cenOf m' c (ix2 j 0) = half m c 0 2 j := by
  rw [cen_eq, taken_eq m m' c h0 h1]
  unfold half
  rw [dif_pos (by omega), bxMat_at m c _ j.isLt, bxMat_at m c _ j.isLt]
  pointwise
  exact scale _

include h0 h1 in
/-- and second. -/
theorem cen_y (j : Fin 2000) : Cert.Proof.Reference.cenOf m' c (ix2 j 1) = half m c 1 3 j := by
  rw [cen_eq, taken_eq m m' c h0 h1]
  unfold half
  rw [dif_pos (by omega), bxMat_at m c _ j.isLt, bxMat_at m c _ j.isLt]
  pointwise
  exact scale _

include h0 h1 in
/-- From the same arguments, every score above minus infinity, both programs end with the same result. -/
theorem value_eq (hs : ∀ i : Fin 20000, (⊥ : EReal) < scoreArg m c (ix1 i)) :
    (Cert.Proof.Reference.Wend m' c (Proc.devRef .tc Cert.ReferenceIdeal.main_v13) : FVec Ideal Cert.ReferenceIdeal.S500x5 .f32)
      = (Cert.Proof.KernelIdeal.result m c : Vec Ideal Cert.KernelIdeal.S500x5 .f32) := by
  have hv : Cert.Proof.Reference.valsOf m' c = tops (scoreArg m c) := (vals_eq m' c).trans (congrArg tops h1)
  funext i
  obtain ⟨r, d, rfl⟩ : ∃ (r : Fin 500) (d : Fin 5), i = ix2 r d :=
    ⟨i 0, i 1, funext fun k => match k with | ⟨0, _⟩ => rfl | ⟨1, _⟩ => rfl⟩
  rw [kernel_at]
  refine (Cert.Proof.Reference.result_at (cen_x m m' c h0 h1) (cen_y m m' c h0 h1)
    (fun j => ?_) (fun i j hij => ?_) r d).trans ?_
  · rw [hv]
    exact Sorted.topK_above _ _ hs j
  · rw [hv]
    exact Sorted.topK_anti _ _ i j hij
  · rw [hv, taken_eq m m' c h0 h1]

end both

end Cert.Proof.Glue
-- ==== Proof.lean ====
module

public import proofs.«01_k».proof.Defs
public import proofs.«01_k».proof.Proof.Kernel.Run
public import proofs.«01_k».proof.Proof.KernelIdeal.Run
public import proofs.«01_k».proof.Proof.Reference.Run
public import proofs.«01_k».proof.Proof.Math.Glue
public import proofs.«01_k».proof.Proof.Gen.Pre_scores_above_minus_infinity

/-! The certificate's claims, assembled. -/

@[expose] public section

noncomputable section

open Idealize.ShloMosaic Idealize.ShloMosaic.TcCoe

/-- The precondition bounds every score of the kernel's argument from below. -/
theorem Cert.Proof.scores_above (m : Cert.Proof.Glue.KMem) (c : Dev Cert.KernelIdeal.nD)
    (h : Cert.Pre_KernelIdeal_scores_above_minus_infinity (hPre_scores_above_minus_infinity := Cert.Pre_scores_above_minus_infinity.Gen.facts) m) (i : Fin 20000) :
    (⊥ : EReal) < Cert.Proof.Glue.scoreArg m c (ix1 i) :=
  haveI := Cert.Pre_scores_above_minus_infinity.Gen.facts
  Cert.Proof.Sorted.above _ _ (h c) i

/-- The claims hold. -/
theorem Cert.Proof.claim : Cert.Claim :=
  ⟨Cert.Kernel.Gen.facts, Cert.KernelIdeal.Gen.facts, Cert.ReferenceIdeal.Gen.facts, Cert.Pre_scores_above_minus_infinity.Gen.facts,
    fun m g _ => θ_run_mono (Cert.Proof.Kernel.run_value m g) fun _ h => ⟨fun c => (h.1 c).2, h.2⟩,
    fun m g _ => θ_run_mono (Cert.Proof.KernelIdeal.run_value m g) fun _ h => ⟨fun c => (h.1 c).2, h.2⟩,
    fun m g _ => θ_run_mono (Cert.Proof.KernelIdeal.run_value m g) fun _ h => ⟨fun c => (h.1 c).2, h.2⟩,
    fun m g _ => θ_run_mono (Cert.Proof.Reference.run_value m g) fun _ h => ⟨fun c => (h.1 c).2, h.2⟩,
    fun m g _ => θ_run_mono (Cert.Proof.Reference.run_value m g) fun _ h => ⟨fun c => (h.1 c).2, h.2⟩,
    trivial,
    fun m g m' g' hpre hargs => ⟨fun c => Cert.Proof.KernelIdeal.result m c,
      θ_run_mono (Cert.Proof.KernelIdeal.run_value m g) fun _ h c => h.1 c,
      θ_run_mono (Cert.Proof.Reference.run_value m' g') fun _ h c =>
        ⟨(h.1 c).1.trans (Cert.Proof.Glue.value_eq m m' c (hargs c).1 (hargs c).2 (Cert.Proof.scores_above m c hpre)), (h.1 c).2⟩⟩⟩

end
